-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .f32) (main_arg1 : FVec F S1024x1024 .f32) (main_arg2 : FVec F S1x2048x32x128 .f32) (main_arg3 : FVec F S1x2048x32x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x32x128 .f32 := Host.absf main_arg2
  let main_cst_2 : FVec F S_ .f32 := constant S_ .f32 0x7F800000#32
  let main_v10 : FVec F S1x2048x32x128 .f32 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .f32) (main_arg1 : FVec F S1024x4096 .f32) (main_arg2 : FVec F S1x2048x32x128 .f32) (main_arg3 : FVec F S1x2048x32x128 .f32) (main_arg4 : FVec F S4096x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x32x128 .f32 := Host.absf main_arg2
  let main_cst_2 : FVec F S_ .f32 := constant S_ .f32 0x7F800000#32
  let main_v10 : FVec F S1x2048x32x128 .f32 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩
abbrev S2048x1024 : Shape := ⟨2, ![2048, 1024]⟩
abbrev S1x2048x8x128 : Shape := ⟨4, ![1, 2048, 8, 128]⟩
abbrev S2048x8x128 : Shape := ⟨3, ![2048, 8, 128]⟩
abbrev S8x2048x128 : Shape := ⟨3, ![8, 2048, 128]⟩
abbrev S512x1024 : Shape := ⟨2, ![512, 1024]⟩
abbrev S1024x128 : Shape := ⟨2, ![1024, 128]⟩
abbrev S1x2048x128 : Shape := ⟨3, ![1, 2048, 128]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S1x768x128 : Shape := ⟨3, ![1, 768, 128]⟩
abbrev S768x128 : Shape := ⟨2, ![768, 128]⟩
abbrev S512x768 : Shape := ⟨2, ![512, 768]⟩
abbrev S3x512x512 : Shape := ⟨3, ![3, 512, 512]⟩
abbrev S3 : Shape := ⟨1, ![3]⟩
abbrev S1 : Shape := ⟨1, ![1]⟩
abbrev S1x512x512 : Shape := ⟨3, ![1, 512, 512]⟩
abbrev S512x512 : Shape := ⟨2, ![512, 512]⟩

abbrev nBuf : Space → Nat
  | .hbm => 39
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x32x128, .f32⟩
  | .hbm, ⟨3, _⟩ => ⟨S1x2048x32x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S2048x1024, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x2048x8x128, .f32⟩
  | .hbm, ⟨23, _⟩ => ⟨S2048x8x128, .f32⟩
  | .hbm, ⟨24, _⟩ => ⟨S8x2048x128, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x2048x8x128, .f32⟩
  | .hbm, ⟨34, _⟩ => ⟨S2048x8x128, .f32⟩
  | .hbm, ⟨35, _⟩ => ⟨S8x2048x128, .f32⟩
  | .hbm, ⟨36, _⟩ => ⟨S2048x1024, .f32⟩
  | .hbm, ⟨37, _⟩ => ⟨S2048x1024, .f32⟩
  | .hbm, ⟨38, _⟩ => ⟨S1x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S1024x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S512x128, .f32⟩
  | .local _ .vmem, ⟨9, _⟩ => ⟨S512x128, .f32⟩
  | .local _ .vmem, ⟨10, _⟩ => ⟨S2048x1024, .f32⟩
  | .local _ .vmem, ⟨11, _⟩ => ⟨S1024x1024, .f32⟩
  | .local _ .vmem, ⟨12, _⟩ => ⟨S2048x1024, .f32⟩
  | .local _ .vmem, ⟨13, _⟩ => ⟨S3x512x512, .f32⟩
  | .local _ .vmem, ⟨14, _⟩ => ⟨S3x512x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_c_9 : Ref sig .tc := ⟨.hbm, 30, rfl⟩
abbrev main_c_10 : Ref sig .tc := ⟨.hbm, 31, rfl⟩
abbrev main_c_11 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev barrier0 : Sem sig := 0

abbrev nD : Nat := 4
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_off1 (i : grid0.Coords) : Fin 3 → Nat :=
  let c0_10 : Index := 0#32
  let arg1 : BitVec 32 := BitVec.ofNat 32 (i 1).val
  let c512_i32 : BitVec 32 := 512#32
  let v11 : BitVec 32 := Scalar.muli arg1 c512_i32
  let c128_i32 : BitVec 32 := 128#32
  let v12 : BitVec 32 := Scalar.subi v11 c128_i32
  let c1280_i32 : BitVec 32 := 1280#32
  let v13 : BitVec 32 := Scalar.minsi v12 c1280_i32
  let v18 : Index := Scalar.indexCast v13
  let c0_11 : Index := 0#32
  ![0, v18.toNat, 0]
def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k1_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k1_off1 (d0 : Dev nD) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_15
  let c4_i32_16 : BitVec 32 := 4#32
  let v20 : BitVec 32 := Scalar.addi v19 c4_i32_16
  let c4_i32_17 : BitVec 32 := 4#32
  let v21 : BitVec 32 := Scalar.remsi v20 c4_i32_17
  let c512_i32 : BitVec 32 := 512#32
  let v31 : BitVec 32 := Scalar.muli v21 c512_i32
  let c0_i32_35 : BitVec 32 := 0#32
  ![v31.toNat, 0]
def k1_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_31 : BitVec 32 := 1#32
  let v33 : BitVec 32 := Scalar.muli v7 c1_i32_31
  let v34 : BitVec 32 := Scalar.addi c0_i32_32 v33
  v34.toNat
def k1_off2 (d0 : Dev nD) (c0_i32_22 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.addi v2 c0_i32_22
  let c4_i32_23 : BitVec 32 := 4#32
  let v27 : BitVec 32 := Scalar.remsi v26 c4_i32_23
  let c512_i32_27 : BitVec 32 := 512#32
  let v32 : BitVec 32 := Scalar.muli v27 c512_i32_27
  let c512_i32_43 : BitVec 32 := 512#32
  ![v32.toNat, 512]
def k1_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_39 : BitVec 32 := 1#32
  let v42 : BitVec 32 := Scalar.muli v5 c1_i32_39
  let v43 : BitVec 32 := Scalar.addi c0_i32_40 v42
  v43.toNat
def k1_off3 (d0 : Dev nD) (c0_i32_18 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v22 : BitVec 32 := Scalar.subi v2 c0_i32_18
  let c1_i32_19 : BitVec 32 := 1#32
  let v23 : BitVec 32 := Scalar.subi v22 c1_i32_19
  let c4_i32_20 : BitVec 32 := 4#32
  let v24 : BitVec 32 := Scalar.addi v23 c4_i32_20
  let c4_i32_21 : BitVec 32 := 4#32
  let v25 : BitVec 32 := Scalar.remsi v24 c4_i32_21
  let c512_i32_74 : BitVec 32 := 512#32
  let v75 : BitVec 32 := Scalar.muli v25 c512_i32_74
  let v76 : Index := Scalar.indexCast v75
  let c0_75 : Index := 0#32
  ![v76.toNat, 0]
def k1_off4 (d0 : Dev nD) (c0_i32_24 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.addi v2 c0_i32_24
  let c1_i32_25 : BitVec 32 := 1#32
  let v29 : BitVec 32 := Scalar.addi v28 c1_i32_25
  let c4_i32_26 : BitVec 32 := 4#32
  let v30 : BitVec 32 := Scalar.remsi v29 c4_i32_26
  let c512_i32_81 : BitVec 32 := 512#32
  let v85 : BitVec 32 := Scalar.muli v30 c512_i32_81
  let v86 : Index := Scalar.indexCast v85
  let c512 : Index := 512#32
  ![v86.toNat, 512]
def k1_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_104 : BitVec 32 := 1#32
  let v109 : BitVec 32 := Scalar.muli v7 c1_i32_104
  let v110 : BitVec 32 := Scalar.addi c0_i32_105 v109
  v110.toNat
def k1_dev6 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_112 : BitVec 32 := 1#32
  let v118 : BitVec 32 := Scalar.muli v5 c1_i32_112
  let v119 : BitVec 32 := Scalar.addi c0_i32_113 v118
  v119.toNat
def k1_dev7 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_177 : BitVec 32 := 1#32
  let v185 : BitVec 32 := Scalar.muli v7 c1_i32_177
  let v186 : BitVec 32 := Scalar.addi c0_i32_178 v185
  v186.toNat
def k1_dev8 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_185 : BitVec 32 := 1#32
  let v194 : BitVec 32 := Scalar.muli v5 c1_i32_185
  let v195 : BitVec 32 := Scalar.addi c0_i32_186 v194
  v195.toNat
def k1_off5 (d0 : Dev nD) (c0_i32_234 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_233 : BitVec 32 := 1#32
  let v247 : BitVec 32 := Scalar.addi v2 c1_i32_233
  let v248 : BitVec 32 := Scalar.subi v247 c0_i32_234
  let c4_i32_235 : BitVec 32 := 4#32
  let v249 : BitVec 32 := Scalar.addi v248 c4_i32_235
  let c4_i32_236 : BitVec 32 := 4#32
  let v250 : BitVec 32 := Scalar.remsi v249 c4_i32_236
  let c512_i32_242 : BitVec 32 := 512#32
  let v256 : BitVec 32 := Scalar.muli v250 c512_i32_242
  let c0_i32_249 : BitVec 32 := 0#32
  ![v256.toNat, 0]
def k1_dev9 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_247 : BitVec 32 := 1#32
  let v259 : BitVec 32 := Scalar.muli v7 c1_i32_247
  let v260 : BitVec 32 := Scalar.addi c0_i32_248 v259
  v260.toNat
def k1_off6 (d0 : Dev nD) (c0_i32_238 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v251 : BitVec 32 := Scalar.subi v2 c1_i32_237
  let v252 : BitVec 32 := Scalar.addi v251 c0_i32_238
  let c4_i32_239 : BitVec 32 := 4#32
  let v253 : BitVec 32 := Scalar.addi v252 c4_i32_239
  let c4_i32_240 : BitVec 32 := 4#32
  let v254 : BitVec 32 := Scalar.remsi v253 c4_i32_240
  let c512_i32_244 : BitVec 32 := 512#32
  let v258 : BitVec 32 := Scalar.muli v254 c512_i32_244
  let c512_i32_255 : BitVec 32 := 512#32
  ![v258.toNat, 512]
def k1_dev10 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_253 : BitVec 32 := 1#32
  let v267 : BitVec 32 := Scalar.muli v5 c1_i32_253
  let v268 : BitVec 32 := Scalar.addi c0_i32_254 v267
  v268.toNat
def k1_dev11 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_293 : BitVec 32 := 1#32
  let v307 : BitVec 32 := Scalar.muli v7 c1_i32_293
  let v308 : BitVec 32 := Scalar.addi c0_i32_294 v307
  v308.toNat
def k1_dev12 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_299 : BitVec 32 := 1#32
  let v315 : BitVec 32 := Scalar.muli v5 c1_i32_299
  let v316 : BitVec 32 := Scalar.addi c0_i32_300 v315
  v316.toNat
def k1_dev13 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_339 : BitVec 32 := 1#32
  let v355 : BitVec 32 := Scalar.muli v7 c1_i32_339
  let v356 : BitVec 32 := Scalar.addi c0_i32_340 v355
  v356.toNat
def k1_dev14 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_345 : BitVec 32 := 1#32
  let v363 : BitVec 32 := Scalar.muli v5 c1_i32_345
  let v364 : BitVec 32 := Scalar.addi c0_i32_346 v363
  v364.toNat
abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 67
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x2048x32x128, .f32⟩
  | .hbm, ⟨3, _⟩ => ⟨S1x2048x32x128, .f32⟩
  | .hbm, ⟨4, _⟩ => ⟨S4096x1024, .f32⟩
  | .hbm, ⟨5, _⟩ => ⟨S1x2048x4096, .f32⟩
  | .hbm, ⟨6, _⟩ => ⟨S1x2048x32x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S2048x2048, .i1⟩
  | .hbm, ⟨25, _⟩ => ⟨S2048x2048, .i1⟩
  | .hbm, ⟨26, _⟩ => ⟨S2048x2048, .i1⟩
  | .hbm, ⟨27, _⟩ => ⟨S2048x2048, .i1⟩
  | .hbm, ⟨28, _⟩ => ⟨S1x32x2048x2048, .f32⟩
  | .hbm, ⟨29, _⟩ => ⟨S_, .f32⟩
  | .hbm, ⟨30, _⟩ => ⟨S1x32x2048x2048, .f32⟩
  | .hbm, ⟨31, _⟩ => ⟨S1x32x2048x2048, .f32⟩
  | .hbm, ⟨32, _⟩ => ⟨S1x1x2048x2048, .i1⟩
  | .hbm, ⟨33, _⟩ => ⟨S_, .f32⟩
  | .hbm, ⟨34, _⟩ => ⟨S_, .f32⟩
  | .hbm, ⟨35, _⟩ => ⟨S1x32x2048x2048, .i1⟩
  | .hbm, ⟨36, _⟩ => ⟨S1x32x2048x2048, .f32⟩
  | .hbm, ⟨37, _⟩ => ⟨S1x32x2048x2048, .f32⟩
  | .hbm, ⟨38, _⟩ => ⟨S_, .f32⟩
  | .hbm, ⟨39, _⟩ => ⟨S1x32x2048, .f32⟩
  | .hbm, ⟨40, _⟩ => ⟨S1x32x2048x1, .f32⟩
  | .hbm, ⟨41, _⟩ => ⟨S1x32x2048x2048, .f32⟩
  | .hbm, ⟨42, _⟩ => ⟨S1x32x2048x2048, .f32⟩
  | .hbm, ⟨43, _⟩ => ⟨S1x32x2048x2048, .f32⟩
  | .hbm, ⟨44, _⟩ => ⟨S_, .i1⟩
  | .hbm, ⟨45, _⟩ => ⟨S2048, .i1⟩
  | .hbm, ⟨46, _⟩ => ⟨S1x1x2048x1, .i1⟩
  | .hbm, ⟨47, _⟩ => ⟨S_, .f32⟩
  | .hbm, ⟨48, _⟩ => ⟨S1x32x2048, .f32⟩
  | .hbm, ⟨49, _⟩ => ⟨S1x32x2048x1, .f32⟩
  | .hbm, ⟨50, _⟩ => ⟨S_, .f32⟩
  | .hbm, ⟨51, _⟩ => ⟨S_, .f32⟩
  | .hbm, ⟨52, _⟩ => ⟨S1x32x2048x1, .i1⟩
  | .hbm, ⟨53, _⟩ => ⟨S1x32x2048x1, .f32⟩
  | .hbm, ⟨54, _⟩ => ⟨S1x32x2048x1, .f32⟩
  | .hbm, ⟨55, _⟩ => ⟨S1x32x2048x2048, .f32⟩
  | .hbm, ⟨56, _⟩ => ⟨S1x32x2048x2048, .f32⟩
  | .hbm, ⟨57, _⟩ => ⟨S1x1x2048x1, .i1⟩
  | .hbm, ⟨58, _⟩ => ⟨S_, .f32⟩
  | .hbm, ⟨59, _⟩ => ⟨S_, .f32⟩
  | .hbm, ⟨60, _⟩ => ⟨S1x32x2048x2048, .i1⟩
  | .hbm, ⟨61, _⟩ => ⟨S1x32x2048x2048, .f32⟩
  | .hbm, ⟨62, _⟩ => ⟨S1x32x2048x2048, .f32⟩
  | .hbm, ⟨63, _⟩ => ⟨S1x32x128x2048, .f32⟩
  | .hbm, ⟨64, _⟩ => ⟨S1x2048x32x128, .f32⟩
  | .hbm, ⟨65, _⟩ => ⟨S1x2048x4096, .f32⟩
  | .hbm, ⟨66, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Sched.lean ====
/-
# `Sched`: the protocol of the all-reduce over the ring

Four devices each hold one partial product (2048x1024). The sum is taken in two directions at once: the left half of
the columns travels clockwise, the right half counter-clockwise, in row chunks of 512. A direction makes six transfers:
three that add up (reduce-scatter, transfers 0 to 2: a chunk lands in a slot of the neighbour's communication buffer
and is added to the neighbour's own chunk) and three that hand the sums round (all-gather, transfers 3 to 5: a chunk
lands in its own place of the neighbour's result buffer).

In both phases device `c` sends with transfer `k` the chunk `c - k` (clockwise) or `c + k` (counter-clockwise).

Who may write where:
* a slot of a communication buffer is handed to its writer at the start, by the signal on the writer's barrier;
* a chunk of the result buffer is handed to the all-gather writer by a reduce-scatter transfer of the OTHER direction,
  which goes to that writer: transfer `k` of direction `d` carries the right to write the chunk the sender has sent away
  with transfer `k - 1` of the other direction.

Every transfer has a send cell (its own device's) and a receive cell (the target's), of one duty each; the barrier of a
device has two duties, one of each neighbour.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring. A direction is a `Bool`: `false` clockwise, `true` counter-clockwise. -/

set_option backward.proofsInPublic true in
/-- The device that direction `d` sends to. -/
def tgt (d : Bool) (c : Dev nD) : Dev nD := ⟨(c.val + cond d 3 1) % 4, Nat.mod_lt _ (by decide)⟩
/-- The device that direction `d` receives from. -/
def frm (d : Bool) (c : Dev nD) : Dev nD := tgt (!d) c

theorem tgt_frm (d : Bool) (c : Dev nD) : tgt d (frm d c) = c := by revert d c; decide
theorem frm_tgt (d : Bool) (c : Dev nD) : frm d (tgt d c) = c := by revert d c; decide
def ring (d : Bool) : Dev nD ≃ Dev nD := ⟨tgt d, frm d, frm_tgt d, tgt_frm d⟩

set_option backward.proofsInPublic true in
/-- The chunk device `c` sends with transfer `k` of direction `d`. -/
def ch (d : Bool) (c : Dev nD) (k : ℕ) : Fin 4 := ⟨(c.val + cond d 1 3 * k) % 4, Nat.mod_lt _ (by decide)⟩
theorem ch_frm (d : Bool) (c : Dev nD) (k : ℕ) : ch d (frm d c) k = ch d c (k + 1) := by
  apply Fin.ext; cases d <;> simp only [ch, frm, tgt, Bool.not_true, Bool.not_false, cond_true, cond_false] <;> omega

/-! ## Memrefs -/

abbrev xM : Memref sig .tc .vmem S2048x1024 .f32 := Memref.whole cc1_stg0_0
abbrev wM : Memref sig .tc .vmem S1024x1024 .f32 := Memref.whole cc1_stg1_0
abbrev oM : Memref sig .tc .vmem S2048x1024 .f32 := Memref.whole cc1_stg2_0

/-- Where chunk `q` of direction `d`'s half lies in the result. -/
def pcOff (d : Bool) (q : Fin 4) : Fin 2 → ℕ := ![512 * q.val, cond d 512 0]
theorem pcInb (d : Bool) (q : Fin 4) : ∀ a, pcOff d q a + S512x512.size a ≤ S2048x1024.size a := by revert d q; decide
def pcM (d : Bool) (q : Fin 4) : Memref sig .tc .vmem S512x512 .f32 :=
  oM.slice (Rect.unit (s := S2048x1024) (pcOff d q) S512x512.size (pcInb d q)) (fun _ => rfl)

/-- The communication buffer of a direction, and its slots. -/
def cM (d : Bool) : Memref sig .tc .vmem S3x512x512 .f32 :=
  match d with | false => Memref.whole cc1_scratch0 | true => Memref.whole cc1_scratch1
theorem slInb (s : Fin 3) : ∀ a, (![s.val, 0, 0] : Fin 3 → ℕ) a + S1x512x512.size a ≤ S3x512x512.size a := by revert s; decide
def slM (d : Bool) (s : Fin 3) : Memref sig .tc .vmem S512x512 .f32 :=
  ((cM d).slice (Rect.unit (s := S3x512x512) ![s.val, 0, 0] S1x512x512.size (slInb s)) (fun _ => rfl)).squeeze S512x512 squeezes_S1x512x512_S512x512

set_option backward.proofsInPublic true in
/-- Where transfer `k` of direction `d` from device `c` lands, on `tgt d c`. -/
def dstM (d : Bool) (c : Dev nD) (k : Fin 6) : Memref sig .tc .vmem S512x512 .f32 :=
  if k.val < 3 then slM d ⟨k.val % 3, Nat.mod_lt _ (by decide)⟩ else pcM d (ch d c k.val)

/-! ## Semaphores and cells -/

/-- A transfer's cell: whether it is the receive cell, the direction, the transfer. -/
abbrev Key : Type := Bool × Bool × Fin 6

set_option backward.proofsInPublic true in
def xsem (x : Key) : DmaSem sig :=
  ⟨13 + 12 * (x.2.2.val / 3) + cond x.2.1 6 0 + cond x.1 3 0 + x.2.2.val % 3, by revert x; decide⟩
abbrev osem (x : Key) : SemLoc sig := .dma (xsem x)

set_option backward.proofsInPublic true in
/-- The transfer whose cell a semaphore is. -/
def key (s : SemLoc sig) : Option Key :=
  match s with
  | .reg _ => none
  | .dma q => if q.val < 13 then none else
      some (decide ((q.val - 13) / 3 % 2 = 1), decide ((q.val - 13) / 6 % 2 = 1),
        ⟨((q.val - 13) / 12 % 2) * 3 + (q.val - 13) % 3, by omega⟩)
theorem key_osem (x : Key) : key (osem x) = some x := by revert x; decide
theorem osem_inj : Function.Injective osem := fun x y h => by
  have := congrArg key h; rw [key_osem, key_osem] at this; exact Option.some.inj this
theorem osem_ne_bar (x : Key) : osem x ≠ .reg barrier0 := fun h => by cases h

abbrev barCell (c : Dev nD) : GSem nD τ sig := ((c : Thread nD τ), .reg barrier0)
abbrev xCell (c : Dev nD) (x : Key) : GSem nD τ sig := ((c : Thread nD τ), osem x)

abbrev N : ℕ := (pcM false 0).view.dmaCredit
theorem N_pos : 0 < N := View.dmaCredit_pos _ (by decide)
theorem credit_pc (d : Bool) (q : Fin 4) : (pcM d q).view.dmaCredit = N := rfl
theorem credit_sl (d : Bool) (s : Fin 3) : (slM d s).view.dmaCredit = N := by cases d <;> rfl
theorem credit_dst (d : Bool) (c : Dev nD) (k : Fin 6) : (dstM d c k).view.dmaCredit = N := by
  unfold dstM; split
  · exact credit_sl ..
  · exact credit_pc ..

/-! ## Contents

`M c` is device `c`'s own product. -/

variable (M : Dev nD → Vec F S2048x1024 .f32)

/-- A chunk of one direction's half of a 2048x1024 vector. -/
def blk (X : Vec F S2048x1024 .f32) (d : Bool) (q : Fin 4) : Vec F S512x512 .f32 := (pcM d q).view.read (Elt F) X

/-- What device `c` sends with transfer `k` of direction `d`. -/
def val (d : Bool) : ℕ → Dev nD → Vec F S512x512 .f32
  | 0, c => blk (M c) d (ch d c 0)
  | k + 1, c => if k < 3 then addf (F := F) (φ := .f32) (blk (M c) d (ch d c (k + 1))) (val d k (frm d c)) else val d k (frm d c)

/-- The elements of a memref of device `c`, at contents that read as `x` / at contents not chosen. -/
def At (w : Memref sig .tc .vmem S512x512 .f32) (c : Dev nD) (x : Vec F S512x512 .f32) : sProp 𝕄 :=
  iprop(∃ f : Buf (Elt F) (w.view.loc (c : Thread nD τ)), ⌜w.view.read (Elt F) f = x⌝ ∗ (w.view.loc (c : Thread nD τ) ↦[w.view.set]{fullShare} f))
def Any (w : Memref sig .tc .vmem S512x512 .f32) (c : Dev nD) : sProp 𝕄 :=
  iprop(∃ f : Buf (Elt F) (w.view.loc (c : Thread nD τ)), (w.view.loc (c : Thread nD τ) ↦[w.view.set]{fullShare} f))

theorem At_Any (w : Memref sig .tc .vmem S512x512 .f32) (c : Dev nD) (x : Vec F S512x512 .f32) : At w c x ⊢ (Any (F := F) w c : sProp 𝕄) := by
  unfold At Any; iintro ⟨%f, -, H⟩; iexists f; iexact H

instance At_storable (w) (c : Dev nD) (x) : BI.Storable (upEmb : UEmb _ 𝕄) (At (F := F) w c x) := by unfold At; infer_instance
instance Any_storable (w) (c : Dev nD) : BI.Storable (upEmb : UEmb _ 𝕄) (Any (F := F) w c) := by unfold Any; infer_instance

/-! ## The schedule -/

/-- What the receive duty of transfer `k` hands over beside the landed data: the right to write the chunk its sender has
    sent away with transfer `k - 1` of the other direction. -/
def extra (d : Bool) (k : Fin 6) (c : Dev nD) : sProp 𝕄 :=
  if 1 ≤ k.val ∧ k.val ≤ 3 then Any (F := F) (pcM (!d) (ch (!d) (frm d c) (k.val - 1))) (frm d c) else iprop(emp)

def sendPay (d : Bool) (k : Fin 6) (c : Dev nD) : sProp 𝕄 := At (pcM d (ch d c k.val)) c (val M d k.val c)
def recvPay (d : Bool) (k : Fin 6) (c : Dev nD) : sProp 𝕄 :=
  iprop(At (dstM d (frm d c) k) c (val M d k.val (frm d c)) ∗ extra (F := F) d k c)
def xPay (x : Key) (c : Dev nD) : sProp 𝕄 := if x.1 then recvPay M x.2.1 x.2.2 c else sendPay M x.2.1 x.2.2 c

/-- The barrier duty `d` of device `c`, paid by `tgt d c`: the three slots of its communication buffer of direction `d`,
    and that its six receive cells of that direction are open. -/
def barPay (d : Bool) (c : Dev nD) : sProp 𝕄 :=
  iprop((Any (F := F) (slM d 0) (tgt d c) ∗ Any (F := F) (slM d 1) (tgt d c) ∗ Any (F := F) (slM d 2) (tgt d c))
    ∗ bigSep (Finset.univ : Finset (Fin 6)) fun k => reached ER (xCell (tgt d c) (true, d, k)) 0)

instance extra_storable (d) (k) (c : Dev nD) : BI.Storable (upEmb : UEmb _ 𝕄) (extra (F := F) d k c) := by
  unfold extra; split <;> infer_instance
instance xPay_storable (x) (c : Dev nD) : BI.Storable (upEmb : UEmb _ 𝕄) (xPay M x c) := by
  unfold xPay recvPay sendPay; split <;> infer_instance
instance barPay_storable (d) (c : Dev nD) : BI.Storable (upEmb : UEmb _ 𝕄) (barPay (F := F) d c) := by
  unfold barPay; infer_instance

def Rd : Rounds.Schedule (GSem nD τ sig) Bool 𝕄 where
  duties g r := if r = 0 ∧ g.1.2 = .tc then
    (if g.2 = .reg barrier0 then Finset.univ else if (key g.2).isSome then {false} else ∅) else ∅
  unitless _ := False
  amount g _ _ := if g.2 = .reg barrier0 then 1 else N
  payload g _ d := if g.2 = .reg barrier0 then barPay (F := F) d g.1.1 else
    match key g.2 with | some x => xPay M x g.1.1 | none => iprop(emp)
  amount_pos g _ _ _ := by
    by_cases h : g.2 = .reg barrier0
    · rw [if_pos h]; exact Nat.one_pos
    · rw [if_neg h]; exact N_pos

instance Rd_payload_storable (g : GSem nD τ sig) (r : ℕ) (d : Bool) : BI.Storable (upEmb : UEmb _ 𝕄) ((Rd (F := F) M).payload g r d) := by
  show BI.Storable upEmb (if g.2 = .reg barrier0 then barPay (F := F) d g.1.1 else
    match key g.2 with | some x => xPay M x g.1.1 | none => iprop(emp))
  split
  · infer_instance
  · split <;> infer_instance

section Tables
variable (c : Dev nD)

theorem duties_bar : (Rd (F := F) M).duties (barCell c) 0 = Finset.univ := by
  dsimp only [Rd]; rw [if_pos ⟨rfl, rfl⟩, if_pos rfl]
theorem duties_x (x : Key) : (Rd (F := F) M).duties (xCell c x) 0 = {false} := by
  dsimp only [Rd]; rw [if_pos ⟨rfl, rfl⟩, if_neg (osem_ne_bar x), key_osem]; rfl
theorem duties_later (g : GSem nD τ sig) : ∀ r, 1 ≤ r → (Rd (F := F) M).duties g r = ∅ :=
  fun r hr => by dsimp only [Rd]; rw [if_neg fun h => by omega]
theorem amount_bar (d : Bool) : (Rd (F := F) M).amount (barCell c) 0 d = 1 := by dsimp only [Rd]; exact if_pos rfl
theorem amount_x (x : Key) (d : Bool) : (Rd (F := F) M).amount (xCell c x) 0 d = N := by
  dsimp only [Rd]; exact if_neg (osem_ne_bar x)
theorem expect_bar : (Rd (F := F) M).expect (barCell c) 0 = 2 := by
  unfold Schedule.expect Schedule.amountOf
  rw [duties_bar, Finset.sum_congr rfl fun d _ => amount_bar M c d, Finset.sum_const, Finset.card_univ, Fintype.card_bool, smul_eq_mul]
theorem expect_x (x : Key) : (Rd (F := F) M).expect (xCell c x) 0 = N := by
  unfold Schedule.expect Schedule.amountOf; rw [duties_x, Finset.sum_singleton, amount_x]
theorem payload_bar (d : Bool) : (Rd (F := F) M).payload (barCell c) 0 d = barPay d c := by dsimp only [Rd]; rw [if_pos rfl]
theorem payload_x (x : Key) (d : Bool) : (Rd (F := F) M).payload (xCell c x) 0 d = xPay M x c := by
  dsimp only [Rd]; rw [if_neg (osem_ne_bar x), key_osem]
theorem rest_bar : bigSep ((Rd (F := F) M).duties (barCell c) 0 \ ∅) (fun d => (Rd (F := F) M).payload (barCell c) 0 d)
    = iprop(barPay (F := F) false c ∗ barPay (F := F) true c) := by
  rw [Finset.sdiff_empty, duties_bar, bigSep_univ_eq_bigSepL [false, true] (by decide) (by decide), bigSepL_cons_cons, bigSepL_singleton,
    payload_bar, payload_bar]
  rfl
theorem rest_x (x : Key) : bigSep ((Rd (F := F) M).duties (xCell c x) 0 \ ∅) (fun d => (Rd (F := F) M).payload (xCell c x) 0 d) = xPay M x c := by
  rw [Finset.sdiff_empty, duties_x, bigSep_singleton, payload_x]

end Tables

/-! ## What a device owes; the levels -/

set_option backward.proofsInPublic true in
/-- The transfer after which `i` are left: transfer `(11 - i) / 2`, the clockwise one first. -/
def dueKey (i : ℕ) : Bool × Fin 6 := (decide ((11 - i) % 2 = 1), ⟨(11 - i) / 2, by omega⟩)
def dueCell (c : Dev nD) (i : ℕ) : GSem nD τ sig := xCell (tgt (dueKey i).1 c) (true, dueKey i)

/-- What the last `n` of the twelve transfers owe. -/
def Rem (c : Dev nD) : ℕ → CellTallies nD τ sig Unit
  | 0 => 0
  | n + 1 => Rem c n + tallyAt (dueCell c n) () N
def O₁ (c : Dev nD) : CellTallies nD τ sig Unit := Rem c 12 + tallyAt (barCell (tgt false c)) () 1
def O₀ (c : Dev nD) : CellTallies nD τ sig Unit := O₁ c + tallyAt (barCell (tgt true c)) () 1

def L (g : GSem nD τ sig) : Finset Unit := if g.1.2 = .tc then {()} else ∅
/-- Receive cell of transfer `k` at `2 + k`, the barrier at 1, everything else at 0. -/
def lvS (s : SemLoc sig) : ℕ := match s with
  | .reg _ => 1
  | .dma q => match key (.dma q) with | some (true, _, k) => 2 + k.val | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (d : Bool) (k : Fin 6) : lv (xCell c (true, d, k)) () = 2 + k.val := by
  show (match key (osem (true, d, k)) with | some (true, _, k) => 2 + k.val | _ => 0) = _
  rw [key_osem]
theorem lv_send (c : Dev nD) (d : Bool) (k : Fin 6) : lv (xCell c (false, d, k)) () = 0 := by
  show (match key (osem (false, d, k)) with | some (true, _, k) => 2 + k.val | _ => 0) = _
  rw [key_osem]
theorem lv_bar (c : Dev nD) : lv (barCell c) () = 1 := rfl

theorem Rem_pos {c : Dev nD} {n : ℕ} {g : GSem nD τ sig} {u : Unit} (h : 0 < Rem c n g u) : ∃ i, i < n ∧ g = dueCell c i := by
  induction n with
  | zero => exact absurd h (Nat.lt_irrefl 0)
  | succ n ih =>
    unfold Rem at h
    rw [Pi.add_apply, Finsupp.add_apply, tallyAt_apply] at h
    by_cases hg : g = dueCell c n
    · exact ⟨n, Nat.lt_succ_self n, hg⟩
    · rw [if_neg (fun h' => hg h'.1), Nat.add_zero] at h
      obtain ⟨i, hi, he⟩ := ih h
      exact ⟨i, Nat.lt_succ_of_lt hi, he⟩
theorem tally_pos {A : CellTallies nD τ sig Unit} {x g : GSem nD τ sig} {n : ℕ} {u : Unit} (h : 0 < (A + tallyAt x () n) g u) :
    0 < A g u ∨ g = x := by
  rw [Pi.add_apply, Finsupp.add_apply, tallyAt_apply] at h
  by_cases hg : g = x
  · exact .inr hg
  · rw [if_neg (fun h' => hg h'.1), Nat.add_zero] at h; exact .inl h
theorem O₀_pos {c : Dev nD} {g : GSem nD τ sig} {u : Unit} (h : 0 < O₀ c g u) :
    (∃ i, i < 12 ∧ g = dueCell c i) ∨ g = barCell (tgt false c) ∨ g = barCell (tgt true c) := by
  unfold O₀ O₁ at h
  rcases tally_pos h with h | h
  · rcases tally_pos h with h | h
    · exact .inl (Rem_pos h)
    · exact .inr (.inl h)
  · exact .inr (.inr h)
theorem lv_due (c : Dev nD) (i : ℕ) : lv (dueCell c i) () = 2 + (11 - i) / 2 := lv_recv ..

theorem O₀_lv {c : Dev nD} {g : GSem nD τ sig} {u : Unit} (h : 0 < O₀ c g u) : g.1.2 = .tc ∧ 0 < lv g u := by
  rcases O₀_pos h with ⟨i, hi, rfl⟩ | rfl | rfl
  · exact ⟨rfl, by rw [lv_due]; omega⟩
  · exact ⟨rfl, Nat.one_pos⟩
  · exact ⟨rfl, Nat.one_pos⟩

/-- A wait at a level below every transfer still owed. -/
theorem mayWait_rem (c : Dev nD) (sm : SemLoc sig) (n : ℕ) (h : lv ((c : Thread nD τ), sm) () < 2 + (12 - n) / 2) :
    (levAts L lv : sProp 𝕄) ⊢ MayWait (c : Thread nD τ) sm () (Rem c n) :=
  MayOwe.of_cut (L := L) (lev := lv) (lv ((c : Thread nD τ), sm) ()) (fun p hp => by rw [Finset.mem_singleton.mp hp, L_tc]; exact Finset.mem_singleton_self _)
    (fun g u hg => by obtain ⟨i, hi, rfl⟩ := Rem_pos hg; exact Finset.mem_singleton_self _)
    (fun p hp => by rw [Finset.mem_singleton.mp hp])
    (fun g u hg => by
      obtain ⟨i, hi, rfl⟩ := Rem_pos hg
      rw [show lv (dueCell c i) u = lv (dueCell c i) () from rfl, lv_due]; omega)

end Cert.KernelIdeal.Ring
-- ==== Proof.Rules.lean ====
/-
# `Rules`: one rule per effect of the all-reduce's body

Sending a chunk, waiting on a transfer's two cells, reading and writing a chunk of the result buffer, reading a slot.
-/
module

public import proofs.«01_k».proof.Proof.Sched

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (M : Dev nD → Vec F S2048x1024 .f32)

abbrev 𝒱₀ : Variants := Variants.none

/-! ## The records every device may consult -/

def barEmb : Dev nD ↪ GSem nD τ sig := ⟨fun c => barCell c, fun _ _ h => congrArg (fun g : GSem nD τ sig => g.1.1) h⟩
def scEmb : Dev nD × Key ↪ GSem nD τ sig :=
  ⟨fun ck => xCell ck.1 ck.2, fun _ _ h => Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem x_mem (c : Dev nD) (x : Key) : xCell c x ∈ (barCells ∪ scCells : Finset (GSem nD τ sig)) :=
  Finset.mem_union_right _ (Finset.mem_map_of_mem scEmb (Finset.mem_univ (c, x)))

def records (κ : GSem nD τ sig → ℕ) : sProp 𝕄 :=
  iprop((bigSep (barCells ∪ scCells) fun g => cellInv ER (Rd M) (κ g) g) ∗ bigSep barCells fun g => reached ER g 0)
instance records_persistent (κ : GSem nD τ sig → ℕ) : BI.Persistent (records M κ) := by unfold records; infer_instance
theorem inv_of (κ : GSem nD τ sig → ℕ) {g : GSem nD τ sig} (hg : g ∈ (barCells ∪ scCells : Finset (GSem nD τ sig))) :
    (bigSep (barCells ∪ scCells) fun g => (cellInv ER (Rd M) (κ g) g : sProp 𝕄)) ⊢ cellInv ER (Rd M) (κ g) g := bigSep_elim hg
theorem reached_of (c : Dev nD) : (bigSep barCells fun g => (reached ER g 0 : sProp 𝕄)) ⊢ reached ER (barCell c) 0 :=
  bigSep_elim (Finset.mem_map_of_mem barEmb (Finset.mem_univ c))
theorem inv_at (κ : GSem nD τ sig → ℕ) {g : GSem nD τ sig} (hg : g ∈ (barCells ∪ scCells : Finset (GSem nD τ sig))) :
    records M κ ⊢ cellInv ER (Rd M) (κ g) g := by
  unfold records; iintro ⟨H, -⟩; iapply (inv_of M κ hg); iexact H
theorem reached_at (κ : GSem nD τ sig → ℕ) (c : Dev nD) : records M κ ⊢ reached ER (barCell c) 0 := by
  unfold records; iintro ⟨-, H⟩;
  iapply (reached_of (F := F) c); iexact H

/-! ## What a device holds for one transfer -/

/-- To send: the tokens of the two duties the transfer pays. -/
def sendR (d : Bool) (k : Fin 6) (c : Dev nD) : sProp 𝕄 :=
  iprop(dutyTok ER (xCell c (false, d, k)) 0 false ∗ reached ER (xCell c (false, d, k)) 0 ∗ dutyTok ER (xCell (tgt d c) (true, d, k)) 0 false)
/-- To wait: its positions on its two cells, and the credit of the receive cell. -/
def waitR (d : Bool) (k : Fin 6) (c : Dev nD) : sProp 𝕄 :=
  iprop(atPos ER (xCell c (false, d, k)) 0 ∅ 0 ∗ atPos ER (xCell c (true, d, k)) 0 ∅ 0 ∗ cred (tallyAt (xCell c (true, d, k)) () N))
/-- After both waits. -/
def doneR (d : Bool) (k : Fin 6) (c : Dev nD) : sProp 𝕄 :=
  iprop(atPos ER (xCell c (false, d, k)) (0 + 1) ∅ 0 ∗ atPos ER (xCell c (true, d, k)) (0 + 1) ∅ 0)
/-- The receive cells of direction `d` on the device it sends to are open. -/
def openR (d : Bool) (c : Dev nD) : sProp 𝕄 :=
  bigSep (Finset.univ : Finset (Fin 6)) fun k => reached ER (xCell (tgt d c) (true, d, k)) 0
instance openR_persistent (d : Bool) (c : Dev nD) : BI.Persistent (openR (F := F) d c) := by unfold openR; infer_instance
theorem open_of (d : Bool) (c : Dev nD) (k : Fin 6) : openR (F := F) d c ⊢ reached ER (xCell (tgt d c) (true, d, k)) 0 :=
  bigSep_elim (Φ := fun k : Fin 6 => (reached ER (xCell (tgt d c) (true, d, k)) 0 : sProp 𝕄)) (Finset.mem_univ k)
/-- Owing what the last `n` transfers owe. -/
def ow (c : Dev nD) (n : ℕ) : sProp 𝕄 := iprop(∃ W, owes (c : Thread nD τ) (Rem c n) W)

section
variable (κ : GSem nD τ sig → ℕ)

theorem wp_xsend (d : Bool) (k : Fin 6) (c : Dev nD) (n : ℕ) (hn : dueKey n = (d, k))
    {src dst : Memref sig .tc .vmem S512x512 .f32} {sS sR : DmaSem sig} {c' : Dev nD} (hc' : c' = tgt d c)
    (hsrc : src = pcM d (ch d c k.val)) (hdst : dst = dstM d c k) (hsS : sS = xsem (false, d, k)) (hsR : sR = xsem (true, d, k))
    {hsc : (dst : Memref sig (Dev.tc c' : Thread nD τ).2.kind .vmem S512x512 .f32).view.ref.isScScratch = false} {hws : src.view.WordExact} {hwd : dst.view.WordExact}
    {hsem : DmaTarget.Typed .vmem (.dma sR) (.remote (nD := nD) (τ := τ) (Dev.tc c') dst (.dma sS) hsc)}
    {α : Type} {Q : α → sProp 𝕄} {kk : PUnit → Prog (TpuEff nD τ sig (Elt F) Λ₀ .tc) α} :
    iprop(records M κ ∗ openR d c ∗ At (pcM d (ch d c k.val)) c (val M d k.val c) ∗ Any (F := F) (dstM d c k) (tgt d c) ∗ extra (F := F) d k (tgt d c)
        ∗ ow c (n + 1) ∗ sendR d k c)
      ⊢ iprop(((cred (tallyAt (xCell c (false, d, k)) () N) ∗ ow c n) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma src (.remote (Dev.tc c') dst (.dma sS) hsc) (.dma sR) hws hwd hsem) kk) Q) := by
  subst hc' hsrc hdst hsS hsR
  unfold At Any ow sendR
  iintro ⟨#HR, #Ho, ⟨%fs, %hfs, Hs⟩, ⟨%fd, Hd⟩, Hx, ⟨%W, HO⟩, Ht, #Hr, Ht'⟩ Hk
  iapply (Rounds.wp_send_pointsTo_with 𝒱₀ ER (Rd M) (c : Thread nD τ) none (κ₁ := κ (xCell c (false, d, k))) (κ₂ := κ (xCell (tgt d c) (true, d, k)))
    (r₁ := 0) (r₂ := 0) (d₁ := false) (d₂ := false) (fd := fd) (fs := fs) (F := extra (F := F) d k (tgt d c)) (q := fullShare)
    (by rw [duties_x M c (false, d, k)]; exact Finset.mem_singleton_self _)
    (by rw [duties_x M (tgt d c) (true, d, k)]; exact Finset.mem_singleton_self _)
    () () N (by exact credit_dst d c k) (amount_x M c (false, d, k) false) (amount_x M (tgt d c) (true, d, k) false) (Rem c n)
    (O₀ := Rem c (n + 1)) (by show Rem c n + tallyAt (dueCell c n) () N = _; unfold dueCell; rw [hn]) (W := W)
    (by
      rw [payload_x M c (false, d, k)]; show _ ⊢ sendPay M d k c
      unfold sendPay At
      iintro H; iexists fs; isplitr; · ipureintro; exact hfs
      iexact H)
    (by
      rw [payload_x M (tgt d c) (true, d, k)]; show _ ⊢ recvPay M d k (tgt d c)
      unfold recvPay At; rw [frm_tgt]
      iintro ⟨H, Hx⟩
      isplitl [H]
      · iexists ((dstM d c k).view.write (Elt F) fd ((pcM d (ch d c k.val)).view.read (Elt F) fs) Finset.univ); isplitr
        · ipureintro; exact (View.read_write_univ _ _).trans hfs
        · iexact H
      · iexact Hx)) $$ [Hs Hd Hx HO Ht Ht']
  · isplitr; · iapply (inv_at M κ (x_mem c (false, d, k))); iexact HR
    isplitr; · iapply (inv_at M κ (x_mem (tgt d c) (true, d, k))); iexact HR
    isplitl [Hs]; · iexact Hs
    isplitl [Hd Hx]
    · isplitl [Hd]; · iexact Hd
      iexact Hx
    isplitl [HO]; · iexact HO
    isplitl [Ht]; · iexact Ht
    isplitr; · iexact Hr
    isplitl [Ht']; · iexact Ht'
    iapply (open_of (F := F) d c k); iexact Ho
  iintro ⟨Hc, HO⟩
  iapply Hk
  isplitl [Hc]; · iexact Hc
  iexists W; iexact HO

/-- A wait on one of a transfer's cells, at a level below all still owed. -/
theorem wp_xwait (x : Key) (c : Dev nD) (n : ℕ) (hlv : lv (xCell c x) () < 2 + (12 - n) / 2)
    {q : DmaSem sig} (hq : q = xsem x) {src dst : Memref sig .tc .vmem S512x512 .f32} {hsrc : src.view.WordExact} {hdst : dst.view.WordExact}
    {α : Type} {Q : α → sProp 𝕄} {k : PUnit → Prog (TpuEff nD τ sig (Elt F) Λ₀ .tc) α} :
    iprop(records M κ ∗ levAts L lv ∗ cred (tallyAt (xCell c x) () N) ∗ ow c n ∗ atPos ER (xCell c x) 0 ∅ 0)
      ⊢ iprop(((ow c n ∗ atPos ER (xCell c x) (0 + 1) ∅ 0 ∗ xPay M x c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  have hN : dst.view.dmaCredit = N := rfl
  unfold ow
  iintro ⟨#HI, #Hl, Hc, ⟨%W, HO⟩, Hat⟩ Hk
  iapply (Rounds.wp_wait_rest_token 𝒱₀ ER (Rd M) (c : Thread nD τ) none (κ := κ (xCell c x))
      (wpE_waitDma2_eq 𝒱₀ (c : Thread nD τ) none Set.univ) (Set.mem_univ _) () (O := Rem c n) (W := W) (R := 0) (m := 0) (T := ∅)
      (by rw [Nat.zero_add, hN, expect_x M c x])) $$ [Hc HO Hat]
  · isplitr; · iapply (inv_at M κ (x_mem c x)); iexact HI
    isplitl [Hc]; · rw [hN]; iexact Hc
    isplitl [HO]; · iexact HO
    isplitr; · iapply (mayWait_rem c (osem x) n hlv); iexact Hl
    iexact Hat
  iintro ⟨HO, Hat, -, Hpay⟩
  iapply Hk
  isplitl [HO]; · iexists _; iexact HO
  isplitl [Hat]; · iexact Hat
  iapply (Entails.of_eq (rest_x M c x)); iexact Hpay

/-- The send wait: the sent chunk comes back. -/
theorem wp_swait (d : Bool) (k : Fin 6) (c : Dev nD) (n : ℕ) (hn : n ≤ 12)
    {q : DmaSem sig} (hq : q = xsem (false, d, k)) {src dst : Memref sig .tc .vmem S512x512 .f32} {hsrc : src.view.WordExact} {hdst : dst.view.WordExact}
    {α : Type} {Q : α → sProp 𝕄} {kk : PUnit → Prog (TpuEff nD τ sig (Elt F) Λ₀ .tc) α} :
    iprop(records M κ ∗ levAts L lv ∗ cred (tallyAt (xCell c (false, d, k)) () N) ∗ ow c n ∗ atPos ER (xCell c (false, d, k)) 0 ∅ 0)
      ⊢ iprop(((ow c n ∗ atPos ER (xCell c (false, d, k)) (0 + 1) ∅ 0 ∗ At (pcM d (ch d c k.val)) c (val M d k.val c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) :=
  wp_xwait M κ (false, d, k) c n (by rw [lv_send]; omega) hq

/-- The receive wait of a reduce-scatter transfer: the slot at what the neighbour sent, and what the transfer carries. -/
theorem wp_rwait (d : Bool) (k : Fin 6) (c : Dev nD) (n : ℕ) (hn : 2 + k.val < 2 + (12 - n) / 2)
    {q : DmaSem sig} (hq : q = xsem (true, d, k)) {src dst : Memref sig .tc .vmem S512x512 .f32} {hsrc : src.view.WordExact} {hdst : dst.view.WordExact}
    {α : Type} {Q : α → sProp 𝕄} {kk : PUnit → Prog (TpuEff nD τ sig (Elt F) Λ₀ .tc) α} :
    iprop(records M κ ∗ levAts L lv ∗ cred (tallyAt (xCell c (true, d, k)) () N) ∗ ow c n ∗ atPos ER (xCell c (true, d, k)) 0 ∅ 0)
      ⊢ iprop(((ow c n ∗ atPos ER (xCell c (true, d, k)) (0 + 1) ∅ 0 ∗ At (dstM d (frm d c) k) c (val M d k.val (frm d c)) ∗ extra (F := F) d k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) :=
  wp_xwait M κ (true, d, k) c n (by rw [lv_recv]; exact hn) hq

end

/-! ## Reading and writing -/

/-- A read of a chunk of the result buffer. -/
theorem wp_pload (d : Bool) (q : Fin 4) (c : Dev nD) {x : Vec F S512x512 .f32}
    {off : Fin 2 → ℕ} (hoff : off = pcOff d q) {hin : ∀ a, off a + S512x512.size a ≤ S2048x1024.size a}
    {hl : (oM : Memref sig .tc .vmem S2048x1024 .f32).view.LoadsAt (Rect.unit (s := S2048x1024) off S512x512.size hin).toLoadRect}
    {α : Type} {Q : α → sProp 𝕄} {k : Vec F S512x512 .f32 → Prog (TpuEff nD τ sig (Elt F) Λ₀ .tc) α} :
    At (pcM d q) c x
      ⊢ iprop((At (pcM d q) c x -∗ wp frame (wpE (defs₀ (F := F)) 𝒱₀ (c : Thread nD τ) none) Set.univ (k x) Q)
          -∗ wp frame (wpE (defs₀ (F := F)) 𝒱₀ (c : Thread nD τ) none) Set.univ
            (.op (.load oM (Rect.unit (s := S2048x1024) off S512x512.size hin).toLoadRect hl) k) Q) := by
  subst hoff
  unfold At
  iintro ⟨%f, %hf, H⟩ Hk
  iapply (wp_load_rect (m := oM) (r := Rect.unit (s := S2048x1024) (pcOff d q) S512x512.size hin) (S := (pcM d q).view.set)
    (f := f) 𝒱₀ (c : Thread nD τ) none Set.univ (Finset.Subset.refl _)) $$ [H]
  · iexact H
  iintro H
  rw [show (oM.access (Rect.unit (s := S2048x1024) (pcOff d q) S512x512.size hin)).read (Elt F) f = x from hf]
  iapply Hk
  iexists f; isplitr; · ipureintro; exact hf
  iexact H

/-- A write of a chunk of the result buffer. -/
theorem wp_pstore (d : Bool) (q : Fin 4) (c : Dev nD) {x : Vec F S512x512 .f32} {w : Vec F S512x512 .f32}
    {off : Fin 2 → ℕ} (hoff : off = pcOff d q) {hin : ∀ a, off a + S512x512.size a ≤ S2048x1024.size a}
    {hx : ((oM : Memref sig .tc .vmem S2048x1024 .f32).access (Rect.unit (s := S2048x1024) off S512x512.size hin)).Stores Finset.univ}
    {hm : (Finset.univ : Finset (Rect.unit (s := S2048x1024) off S512x512.size hin).shape.Idx) = Finset.univ ∨ ∀ a, (Rect.unit (s := S2048x1024) off S512x512.size hin).stride a = 1}
    {α : Type} {Q : α → sProp 𝕄} {k : PUnit → Prog (TpuEff nD τ sig (Elt F) Λ₀ .tc) α} :
    At (pcM d q) c x
      ⊢ iprop((At (pcM d q) c w -∗ wp frame (wpE (defs₀ (F := F)) 𝒱₀ (c : Thread nD τ) none) Set.univ (k ⟨⟩) Q)
          -∗ wp frame (wpE (defs₀ (F := F)) 𝒱₀ (c : Thread nD τ) none) Set.univ
            (.op (.store oM (Rect.unit (s := S2048x1024) off S512x512.size hin) w Finset.univ hx hm) k) Q) := by
  subst hoff
  unfold At
  iintro ⟨%f, %hf, H⟩ Hk
  iapply (wp_store (m := oM) (r := Rect.unit (s := S2048x1024) (pcOff d q) S512x512.size hin) (Mk := Finset.univ) (S := (pcM d q).view.set)
    (f := f) 𝒱₀ (c : Thread nD τ) none Set.univ (by rw [View.setOn_univ]; exact Finset.Subset.refl _)) $$ [H]
  · iexact H
  iintro H
  iapply Hk
  iexists _; isplitr; swap; · iexact H
  ipureintro
  exact View.read_write_univ _ _

/-- A read of a slot of a communication buffer: as the 512x512 vector that landed. -/
theorem wp_sload (d : Bool) (s : Fin 3) (c : Dev nD) {x : Vec F S512x512 .f32} {m : Memref sig .tc .vmem S3x512x512 .f32} (hm : m = cM d)
    {off : Fin 3 → ℕ} (hoff : off = ![s.val, 0, 0]) {hin : ∀ a, off a + S1x512x512.size a ≤ S3x512x512.size a}
    {hl : m.view.LoadsAt (Rect.unit (s := S3x512x512) off S1x512x512.size hin).toLoadRect}
    {α : Type} {Q : α → sProp 𝕄} {k : Vec F S1x512x512 .f32 → Prog (TpuEff nD τ sig (Elt F) Λ₀ .tc) α} :
    At (slM d s) c x
      ⊢ iprop((∀ v : Vec F S1x512x512 .f32, ⌜shapeCast S512x512 v shapeCasts_S1x512x512_S512x512 = x⌝ -∗ At (slM d s) c x -∗ wp frame (wpE (defs₀ (F := F)) 𝒱₀ (c : Thread nD τ) none) Set.univ (k v) Q)
          -∗ wp frame (wpE (defs₀ (F := F)) 𝒱₀ (c : Thread nD τ) none) Set.univ
            (.op (.load m (Rect.unit (s := S3x512x512) off S1x512x512.size hin).toLoadRect hl) k) Q) := by
  subst hoff hm
  unfold At
  iintro ⟨%f, %hf, H⟩ Hk
  iapply (wp_load (m := cM d) (r := (Rect.unit (s := S3x512x512) ![s.val, 0, 0] S1x512x512.size hin).toLoadRect) (S := (slM d s).view.set)
    (f := f) 𝒱₀ (c : Thread nD τ) none Set.univ (by
      have h := View.set_slice (cM d).view (Rect.unit (s := S3x512x512) ![s.val, 0, 0] S1x512x512.size hin)
      have h2 : (slM d s).view.set = ((cM d).view.slice (Rect.unit (s := S3x512x512) ![s.val, 0, 0] S1x512x512.size hin)).set := View.set_reshape ..
      rw [h2, h]; exact Finset.Subset.refl _)) $$ [H]
  · iexact H
  iintro H
  iapply Hk $$ %((cM d).view.readAt (Elt F) (Rect.unit (s := S3x512x512) ![s.val, 0, 0] S1x512x512.size hin).toLoadRect f) [] [H]
  · ipureintro
    rw [← hf]; rfl
  · iexists f; isplitr; · ipureintro; exact hf
    iexact H

end Cert.KernelIdeal.Ring
-- ==== Proof.Pieces.lean ====
/-
# `Pieces`: the result buffer as its eight chunks, a communication buffer as its three slots

And what the eight chunks hold at the end: one vector, the same on every device.
-/
module

public import proofs.«01_k».proof.Proof.Rules
public import Idealize.ShloMosaic.Lib.Ring

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (M : Dev nD → Vec F S2048x1024 .f32)

/-! ## Chunks -/

/-- A memref's elements at what it reads of `X` are its elements at `X`. -/
theorem At_read_mp (w : Memref sig .tc .vmem S512x512 .f32) (c : Dev nD) (X : Buf (Elt F) (w.view.loc (c : Thread nD τ))) :
    At w c (w.view.read (Elt F) X) ⊢ (w.view.loc (c : Thread nD τ) ↦[w.view.set]{fullShare} X : sProp 𝕄) := by
  unfold At
  iintro ⟨%f, %hf, H⟩
  iapply (Entails.of_eq (pointsTo_congr (ℓ := w.view.loc (c : Thread nD τ)) (I := w.view.set) (q := fullShare) (f := f) (g := X) (fun i hi => by
    obtain ⟨x, -, rfl⟩ := Finset.mem_map.mp hi
    have h := congrFun hf x
    rw [View.read_apply, View.read_apply] at h
    exact (cast_bijective _).1 h)))
  iexact H
theorem At_read_mpr (w : Memref sig .tc .vmem S512x512 .f32) (c : Dev nD) (X : Buf (Elt F) (w.view.loc (c : Thread nD τ))) :
    (w.view.loc (c : Thread nD τ) ↦[w.view.set]{fullShare} X : sProp 𝕄) ⊢ At w c (w.view.read (Elt F) X) := by
  unfold At
  iintro H; iexists X; isplitr; · ipureintro; rfl
  iexact H
theorem At_read (w : Memref sig .tc .vmem S512x512 .f32) (c : Dev nD) (X : Buf (Elt F) (w.view.loc (c : Thread nD τ))) :
    At w c (w.view.read (Elt F) X) = (w.view.loc (c : Thread nD τ) ↦[w.view.set]{fullShare} X : sProp 𝕄) :=
  BI.equiv_iff.mp ⟨At_read_mp w c X, At_read_mpr w c X⟩

/-- The elements of a chunk, of a slot. -/
def pcSet (d : Bool) (q : Fin 4) : Finset S2048x1024.Idx := (pcM d q).view.set
def slSet (d : Bool) (s : Fin 3) : Finset (cM d).view.ty.Idx := (slM d s).view.set

theorem pc_mem (d : Bool) (q : Fin 4) (i : S2048x1024.Idx) :
    i ∈ pcSet d q ↔ ∀ a, pcOff d q a ≤ (i a : ℕ) ∧ (i a : ℕ) < pcOff d q a + S512x512.size a := by
  have h : pcSet d q = (Rect.unit (s := S2048x1024) (pcOff d q) S512x512.size (pcInb d q)).set := by
    show ((View.whole cc1_stg2_0).slice _).set = _
    rw [View.set_slice]; exact Finset.map_refl
  rw [h]; exact Rect.mem_set_unit

theorem pc_disj (p p' : Bool × Fin 4) (h : p ≠ p') : Disjoint (pcSet p.1 p.2) (pcSet p'.1 p'.2) := by
  rw [Finset.disjoint_left]
  intro i hi hi'
  have h0 := (pc_mem _ _ i).mp hi 0
  have h1 := (pc_mem _ _ i).mp hi 1
  have h0' := (pc_mem _ _ i).mp hi' 0
  have h1' := (pc_mem _ _ i).mp hi' 1
  obtain ⟨d, q⟩ := p
  obtain ⟨d', q'⟩ := p'
  change 512 * q.val ≤ (i 0 : ℕ) ∧ (i 0 : ℕ) < 512 * q.val + 512 at h0
  change 512 * q'.val ≤ (i 0 : ℕ) ∧ (i 0 : ℕ) < 512 * q'.val + 512 at h0'
  change cond d 512 0 ≤ (i 1 : ℕ) ∧ (i 1 : ℕ) < cond d 512 0 + 512 at h1
  change cond d' 512 0 ≤ (i 1 : ℕ) ∧ (i 1 : ℕ) < cond d' 512 0 + 512 at h1'
  apply h
  have hq : q = q' := Fin.ext (by omega)
  subst hq
  cases d <;> cases d' <;> simp only [cond_true, cond_false] at h1 h1' <;> first | rfl | omega

theorem pc_cover : Finset.univ.biUnion (fun p : Bool × Fin 4 => pcSet p.1 p.2) = Finset.univ := by
  rw [Finset.eq_univ_iff_forall]
  intro i
  rw [Finset.mem_biUnion]
  have b0 : (i 0 : ℕ) < 2048 := (i 0).isLt
  have b1 : (i 1 : ℕ) < 1024 := (i 1).isLt
  refine ⟨(decide (512 ≤ (i 1 : ℕ)), ⟨(i 0 : ℕ) / 512, by omega⟩), Finset.mem_univ _, (pc_mem _ _ i).mpr fun a => ?_⟩
  match a with
  | 0 =>
    show 512 * ((i 0 : ℕ) / 512) ≤ (i 0 : ℕ) ∧ (i 0 : ℕ) < 512 * ((i 0 : ℕ) / 512) + 512
    omega
  | 1 =>
    show cond (decide (512 ≤ (i 1 : ℕ))) 512 0 ≤ (i 1 : ℕ) ∧ (i 1 : ℕ) < cond (decide (512 ≤ (i 1 : ℕ))) 512 0 + 512
    by_cases h : 512 ≤ (i 1 : ℕ)
    · rw [decide_eq_true h]; simp only [cond_true]; omega
    · rw [decide_eq_false h]; simp only [cond_false]; omega

theorem pieces_eq (c : Dev nD) (X : Vec F S2048x1024 .f32) :
    ((oM : Memref sig .tc .vmem S2048x1024 .f32).view.loc (c : Thread nD τ) ↦{fullShare} X : sProp 𝕄)
      = bigSep Finset.univ fun p : Bool × Fin 4 => At (pcM p.1 p.2) c (blk X p.1 p.2) := by
  refine Eq.trans ?_ (bigSep_congr (s := Finset.univ) (Φ := fun p : Bool × Fin 4 => ((oM : Memref sig .tc .vmem S2048x1024 .f32).view.loc (c : Thread nD τ) ↦[pcSet p.1 p.2]{fullShare} X : sProp 𝕄))
    fun p _ => (At_read (pcM p.1 p.2) c X).symm)
  exact Idealize.ShloMosaic.Ring.pointsTo_blocks (ℓ := (oM : Memref sig .tc .vmem S2048x1024 .f32).view.loc (c : Thread nD τ)) (fun p : Bool × Fin 4 => pcSet p.1 p.2) pc_disj pc_cover X

theorem eight (c : Dev nD) (Φ : Bool × Fin 4 → sProp 𝕄) : bigSep Finset.univ Φ
    = iprop(Φ (false, ch false c 0) ∗ Φ (false, ch false c 1) ∗ Φ (false, ch false c 2) ∗ Φ (false, ch false c 3)
      ∗ Φ (true, ch true c 0) ∗ Φ (true, ch true c 1) ∗ Φ (true, ch true c 2) ∗ Φ (true, ch true c 3)) := by
  rw [bigSep_univ_eq_bigSepL [(false, ch false c 0), (false, ch false c 1), (false, ch false c 2), (false, ch false c 3),
    (true, ch true c 0), (true, ch true c 1), (true, ch true c 2), (true, ch true c 3)] (by revert c; decide) (by revert c; decide)]
  simp only [bigSepL_cons_cons, bigSepL_singleton]
  rfl

/-! ## What the chunks hold at the end -/

set_option backward.proofsInPublic true in
/-- The device whose sum chunk `q` of direction `d` is. -/
def own (d : Bool) (q : Fin 4) : Dev nD := ⟨(q.val + cond d 1 3) % 4, Nat.mod_lt _ (by decide)⟩
theorem own_ch (d : Bool) (c : Dev nD) : own d (ch d c 3) = c := by revert d c; decide

/-- The sum's chunk. -/
def fin (d : Bool) (q : Fin 4) : Vec F S512x512 .f32 := val M d 3 (own d q)

theorem val_fin (d : Bool) (k : ℕ) (hk : 3 ≤ k) (c : Dev nD) : val M d k c = fin M d (ch d c k) := by
  induction k, hk using Nat.le_induction generalizing c with
  | base => unfold fin; rw [own_ch]
  | succ k hk ih =>
    rw [val, if_neg (by omega), ih, ch_frm]

set_option backward.proofsInPublic true in
/-- The result: chunk by chunk. -/
def OUT : Vec F S2048x1024 .f32 := fun i =>
  fin M (decide (512 ≤ (i 1 : ℕ))) ⟨(i 0 : ℕ) / 512, by have : (i 0 : ℕ) < 2048 := (i 0).isLt; omega⟩
    (fun a => match a with | ⟨0, _⟩ => ⟨(i 0 : ℕ) % 512, Nat.mod_lt _ (by decide)⟩ | ⟨1, _⟩ => ⟨(i 1 : ℕ) % 512, Nat.mod_lt _ (by decide)⟩)

theorem blk_apply (X : Vec F S2048x1024 .f32) (d : Bool) (q : Fin 4) (i : S512x512.Idx) :
    blk X d q i = X ((Rect.unit (s := S2048x1024) (pcOff d q) S512x512.size (pcInb d q)).emb i) := rfl
theorem emb0 (d : Bool) (q : Fin 4) (i : S512x512.Idx) :
    (((Rect.unit (s := S2048x1024) (pcOff d q) S512x512.size (pcInb d q)).emb i) 0 : ℕ) = 512 * q.val + (i 0 : ℕ) := by
  rw [Rect.emb_apply]; show 512 * q.val + 1 * (i 0 : ℕ) = _; omega
theorem emb1 (d : Bool) (q : Fin 4) (i : S512x512.Idx) :
    (((Rect.unit (s := S2048x1024) (pcOff d q) S512x512.size (pcInb d q)).emb i) 1 : ℕ) = cond d 512 0 + (i 1 : ℕ) := by
  rw [Rect.emb_apply]; show cond d 512 0 + 1 * (i 1 : ℕ) = _; omega

theorem fin_congr {d d' : Bool} {q q' : Fin 4} {i i' : S512x512.Idx} (hd : d = d') (hq : q = q') (hi : i = i') :
    fin M d q i = fin M d' q' i' := by subst hd hq hi; rfl

theorem blk_OUT (d : Bool) (q : Fin 4) : blk (OUT M) d q = fin M d q := by
  funext i
  rw [blk_apply]
  have b0 : (i 0 : ℕ) < 512 := (i 0).isLt
  have b1 : (i 1 : ℕ) < 512 := (i 1).isLt
  unfold OUT
  refine fin_congr M ?_ (Fin.ext ?_) (funext fun a => ?_)
  · rw [emb1]; cases d
    · exact decide_eq_false (by simp only [cond_false]; omega)
    · exact decide_eq_true (by simp only [cond_true]; omega)
  · show _ / 512 = _
    rw [emb0]; omega
  · match a with
    | ⟨0, _⟩ =>
      apply Fin.ext; show _ % 512 = (i 0 : ℕ)
      rw [emb0]; omega
    | ⟨1, _⟩ =>
      apply Fin.ext; show _ % 512 = (i 1 : ℕ)
      rw [emb1]; cases d
      · simp only [cond_false]; omega
      · simp only [cond_true]; omega

/-! ## Slots -/

theorem sl_mem (s : Fin 3) (i : S3x512x512.Idx) :
    i ∈ ((View.whole (sig := sig) (κ := .tc) cc1_scratch0).slice (Rect.unit (s := S3x512x512) ![s.val, 0, 0] S1x512x512.size (slInb s))).set ↔ (i 0 : ℕ) = s.val := by
  have h : ((View.whole (sig := sig) (κ := .tc) cc1_scratch0).slice (Rect.unit (s := S3x512x512) ![s.val, 0, 0] S1x512x512.size (slInb s))).set
      = (Rect.unit (s := S3x512x512) ![s.val, 0, 0] S1x512x512.size (slInb s)).set := by
    rw [View.set_slice]; exact Finset.map_refl
  rw [h, Rect.mem_set_unit]
  constructor
  · intro h
    have h0 := h 0
    change s.val ≤ (i 0 : ℕ) ∧ (i 0 : ℕ) < s.val + 1 at h0
    omega
  · intro h a
    match a with
    | 0 => show s.val ≤ (i 0 : ℕ) ∧ (i 0 : ℕ) < s.val + 1; omega
    | 1 =>
      have b1 : (i 1 : ℕ) < 512 := (i 1).isLt
      show 0 ≤ (i 1 : ℕ) ∧ (i 1 : ℕ) < 0 + 512; omega
    | 2 =>
      have b1 : (i 2 : ℕ) < 512 := (i 2).isLt
      show 0 ≤ (i 2 : ℕ) ∧ (i 2 : ℕ) < 0 + 512; omega

theorem three (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]
  rfl

/-- A communication buffer at contents not chosen is its slots so. -/
def commAny (d : Bool) (c : Dev nD) : sProp 𝕄 :=
  iprop(∃ f : Buf (Elt F) ((cM d).view.loc (c : Thread nD τ)), ((cM d).view.loc (c : Thread nD τ)) ↦{fullShare} f)

theorem sl_disj (d : Bool) (s s' : Fin 3) (h : s ≠ s') : Disjoint (slSet d s) (slSet d s') := by
  have h1 : ∀ s, slSet d s = ((cM d).view.slice (Rect.unit (s := S3x512x512) ![s.val, 0, 0] S1x512x512.size (slInb s))).set := fun s => View.set_reshape ..
  rw [h1, h1]
  refine View.disjoint_slice_of_sep _ _ _ 0 rfl rfl ?_
  show s.val + 1 ≤ s'.val ∨ s'.val + 1 ≤ s.val
  have := fun h' => h (Fin.ext h')
  omega
theorem sl_cover (d : Bool) : Finset.univ.biUnion (fun s : Fin 3 => slSet d s) = Finset.univ := by
  have h1 : ∀ s, slSet d s = ((cM d).view.slice (Rect.unit (s := S3x512x512) ![s.val, 0, 0] S1x512x512.size (slInb s))).set := fun s => View.set_reshape ..
  have h2 : ∀ i, ∃ s, i ∈ slSet d s := by
    cases d
    · intro (i : S3x512x512.Idx); refine ⟨i 0, ?_⟩; exact (congrArg (fun S => i ∈ S) (h1 (i 0))).mpr ((sl_mem (i 0) i).mpr rfl)
    · intro (i : S3x512x512.Idx); refine ⟨i 0, ?_⟩; exact (congrArg (fun S => i ∈ S) (h1 (i 0))).mpr ((sl_mem (i 0) i).mpr rfl)
  refine Finset.eq_univ_iff_forall.mpr fun i => Finset.mem_biUnion.mpr ?_
  obtain ⟨s, hs⟩ := h2 i
  exact ⟨s, Finset.mem_univ _, hs⟩

theorem any_of (d : Bool) (s : Fin 3) (c : Dev nD) (f : Buf (Elt F) ((cM d).view.loc (c : Thread nD τ))) :
    ((cM d).view.loc (c : Thread nD τ) ↦[slSet d s]{fullShare} f : sProp 𝕄) ⊢ Any (F := F) (slM d s) c := by
  unfold Any; iintro H; iexists f; iexact H

theorem comm_split (d : Bool) (c : Dev nD) : commAny (F := F) d c ⊢ (iprop(Any (F := F) (slM d 0) c ∗ Any (F := F) (slM d 1) c ∗ Any (F := F) (slM d 2) c) : sProp 𝕄) := by
  rw [← three (F := F) (fun s => Any (F := F) (slM d s) c)]
  unfold commAny
  iintro ⟨%f, H⟩
  ihave H2 := (Entails.of_eq (Idealize.ShloMosaic.Ring.pointsTo_blocks (ℓ := (cM d).view.loc (c : Thread nD τ)) (fun s : Fin 3 => slSet d s) (sl_disj d) (sl_cover d) f)) $$ H
  have h : (bigSep Finset.univ fun s : Fin 3 => ((cM d).view.loc (c : Thread nD τ) ↦[slSet d s]{fullShare} f : sProp 𝕄)) ⊢ bigSep Finset.univ fun s : Fin 3 => Any (F := F) (slM d s) c :=
    bigSep_mono fun s _ => any_of d s c f
  iapply h
  iexact H2

theorem comm_join [∀ e, Nonempty (Elt F e)] (d : Bool) (c : Dev nD) : iprop(Any (F := F) (slM d 0) c ∗ Any (F := F) (slM d 1) c ∗ Any (F := F) (slM d 2) c) ⊢ (commAny (F := F) d c : sProp 𝕄) := by
  rw [← three (F := F) (fun s => Any (F := F) (slM d s) c)]
  exact Idealize.ShloMosaic.Ring.pointsTo_blocks_join_exists (ℓ := (cM d).view.loc (c : Thread nD τ)) (fun s : Fin 3 => slSet d s) (sl_disj d) (sl_cover d)
    (fun _ => Classical.arbitrary _)

end Cert.KernelIdeal.Ring
-- ==== Proof.Body.lean ====
/-
# `Body`: one device's run of the all-reduce's body

The body at a symbolic device: the barrier, three reduce-scatter steps, three all-gather steps, in both directions of the ring.
-/
module

public import proofs.«01_k».proof.Proof.Pieces

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (M : Dev nD → Vec F S2048x1024 .f32)

/-! ## Devices and offsets of the program -/

theorem dev1_eq (c : Dev nD) : (⟨k1_dev1 c, k1_dev1_lt c⟩ : Dev nD) = tgt true c := Fin.ext (k1_dev1_eq c)
theorem dev2_eq (c : Dev nD) : (⟨k1_dev2 c, k1_dev2_lt c⟩ : Dev nD) = tgt false c := Fin.ext (k1_dev2_eq c)
theorem dev3_eq (c : Dev nD) : (⟨k1_dev3 c, k1_dev3_lt c⟩ : Dev nD) = tgt false c := Fin.ext (k1_dev3_eq c)
theorem dev4_eq (c : Dev nD) : (⟨k1_dev4 c, k1_dev4_lt c⟩ : Dev nD) = tgt true c := Fin.ext (k1_dev4_eq c)
theorem dev5_eq (c : Dev nD) : (⟨k1_dev5 c, k1_dev5_lt c⟩ : Dev nD) = tgt false c := Fin.ext (k1_dev5_eq c)
theorem dev6_eq (c : Dev nD) : (⟨k1_dev6 c, k1_dev6_lt c⟩ : Dev nD) = tgt true c := Fin.ext (k1_dev6_eq c)
theorem dev7_eq (c : Dev nD) : (⟨k1_dev7 c, k1_dev7_lt c⟩ : Dev nD) = tgt false c := Fin.ext (k1_dev7_eq c)
theorem dev8_eq (c : Dev nD) : (⟨k1_dev8 c, k1_dev8_lt c⟩ : Dev nD) = tgt true c := Fin.ext (k1_dev8_eq c)
theorem dev9_eq (c : Dev nD) : (⟨k1_dev9 c, k1_dev9_lt c⟩ : Dev nD) = tgt false c := Fin.ext (k1_dev9_eq c)
theorem dev10_eq (c : Dev nD) : (⟨k1_dev10 c, k1_dev10_lt c⟩ : Dev nD) = tgt true c := Fin.ext (k1_dev10_eq c)
theorem dev11_eq (c : Dev nD) : (⟨k1_dev11 c, k1_dev11_lt c⟩ : Dev nD) = tgt false c := Fin.ext (k1_dev11_eq c)
theorem dev12_eq (c : Dev nD) : (⟨k1_dev12 c, k1_dev12_lt c⟩ : Dev nD) = tgt true c := Fin.ext (k1_dev12_eq c)
theorem dev13_eq (c : Dev nD) : (⟨k1_dev13 c, k1_dev13_lt c⟩ : Dev nD) = tgt false c := Fin.ext (k1_dev13_eq c)
theorem dev14_eq (c : Dev nD) : (⟨k1_dev14 c, k1_dev14_lt c⟩ : Dev nD) = tgt true c := Fin.ext (k1_dev14_eq c)

theorem off1_eq (c : Dev nD) (r : Fin 3) : k1_off1 c (BitVec.ofNat 32 r.val) = pcOff false (ch false c r.val) := by
  rw [k1_off1_eq c r]; revert c r; decide
theorem off2_eq (c : Dev nD) (r : Fin 3) : k1_off2 c (BitVec.ofNat 32 r.val) = pcOff true (ch true c r.val) := by
  rw [k1_off2_eq c r]; revert c r; decide
theorem off3_eq (c : Dev nD) (r : Fin 3) : k1_off3 c (BitVec.ofNat 32 r.val) = pcOff false (ch false c (r.val + 1)) := by
  rw [k1_off3_eq c r]; revert c r; decide
theorem off4_eq (c : Dev nD) (r : Fin 3) : k1_off4 c (BitVec.ofNat 32 r.val) = pcOff true (ch true c (r.val + 1)) := by
  rw [k1_off4_eq c r]; revert c r; decide
theorem off5_eq (c : Dev nD) (r : Fin 3) : k1_off5 c (BitVec.ofNat 32 r.val) = pcOff false (ch false c (r.val + 3)) := by
  rw [k1_off5_eq c r]; revert c r; decide
theorem off6_eq (c : Dev nD) (r : Fin 3) : k1_off6 c (BitVec.ofNat 32 r.val) = pcOff true (ch true c (r.val + 3)) := by
  rw [k1_off6_eq c r]; revert c r; decide

theorem pc_of {off : Fin 2 → ℕ} {d : Bool} {q : Fin 4} (h : off = pcOff d q) (hin : ∀ a, off a + S512x512.size a ≤ S2048x1024.size a) :
    oM.slice (Rect.unit (s := S2048x1024) off S512x512.size hin) (fun _ => rfl) = pcM d q := by subst h; rfl

/-! ## Where a transfer lands, what it carries, what the sum makes of it -/

theorem dst_sl (d : Bool) (c : Dev nD) (s : Fin 3) : dstM d c ⟨s.val, by omega⟩ = slM d s := by
  revert s; unfold dstM; intro s
  match s with
  | 0 => rfl
  | 1 => rfl
  | 2 => rfl
theorem dst_pc (d : Bool) (c : Dev nD) (k : Fin 6) (h : 3 ≤ k.val) : dstM d c k = pcM d (ch d c k.val) := if_neg (by omega)

theorem land_sl (d : Bool) (c c' : Dev nD) (s : Fin 3) (k : Fin 6) (hk : k = ⟨s.val, by omega⟩) (x : Vec F S512x512 .f32) :
    (At (dstM d c' k) c x : sProp 𝕄) = At (slM d s) c x := by subst hk; rw [dst_sl]
theorem any_sl (d : Bool) (c c' : Dev nD) (s : Fin 3) (k : Fin 6) (hk : k = ⟨s.val, by omega⟩) :
    (Any (F := F) (slM d s) c : sProp 𝕄) = Any (F := F) (dstM d c' k) c := by subst hk; rw [dst_sl]
theorem land_pc (d : Bool) (c : Dev nD) (k : Fin 6) (h : 3 ≤ k.val) :
    (At (dstM d (frm d c) k) c (val M d k.val (frm d c)) : sProp 𝕄) = At (pcM d (ch d c (k.val + 1))) c (val M d (k.val + 1) c) := by
  rw [dst_pc _ _ _ h, ch_frm, val, if_neg (by omega)]

theorem extra_none (d : Bool) (k : Fin 6) (c : Dev nD) (h : ¬(1 ≤ k.val ∧ k.val ≤ 3)) : (iprop(emp) : sProp 𝕄) = extra (F := F) d k c :=
  (if_neg h).symm
theorem extra_give (d : Bool) (k : Fin 6) (c : Dev nD) (h : 1 ≤ k.val ∧ k.val ≤ 3) (x : Vec F S512x512 .f32) :
    At (pcM (!d) (ch (!d) c (k.val - 1))) c x ⊢ (extra (F := F) d k (tgt d c) : sProp 𝕄) := by
  unfold extra; rw [if_pos h, frm_tgt]; exact At_Any _ _ _
theorem ch_extra : ∀ (d : Bool) (c : Dev nD) (k : Fin 6), 1 ≤ k.val ∧ k.val ≤ 3 → ch (!d) (frm d c) (k.val - 1) = ch (!d) c (k.val + 2) := by decide
theorem extra_use (d : Bool) (k k' : Fin 6) (c : Dev nD) (h : 1 ≤ k.val ∧ k.val ≤ 3) (hk : k'.val = k.val + 2) :
    (extra (F := F) d k c : sProp 𝕄) = Any (F := F) (dstM (!d) c k') (tgt (!d) c) := by
  unfold extra; rw [if_pos h, ch_extra d c k h, dst_pc _ _ _ (by omega), hk]; rfl

/-- One addition of the reduce-scatter. -/
def addp (v : Vec F S512x512 .f32) (w : Vec F S1x512x512 .f32) : Vec F S512x512 .f32 :=
  addf (F := F) (φ := .f32) (shapeCast S512x512 v shapeCasts_S512x512_S512x512) (shapeCast S512x512 w shapeCasts_S1x512x512_S512x512)
theorem add_val (d : Bool) (c : Dev nD) (k : ℕ) (hk : k < 3) {w : Vec F S1x512x512 .f32}
    (hw : shapeCast S512x512 w shapeCasts_S1x512x512_S512x512 = val M d k (frm d c)) :
    addp (blk (M c) d (ch d c (k + 1))) w = val M d (k + 1) c := by
  unfold addp; rw [hw, shapeCast_self, val, if_pos hk]

theorem eight' (c : Dev nD) (Φ : Bool × Fin 4 → sProp 𝕄) : bigSep Finset.univ Φ
    = iprop(Φ (false, ch false c 3) ∗ Φ (false, ch false c 4) ∗ Φ (false, ch false c 5) ∗ Φ (false, ch false c 6)
      ∗ Φ (true, ch true c 3) ∗ Φ (true, ch true c 4) ∗ Φ (true, ch true c 5) ∗ Φ (true, ch true c 6)) := by
  rw [bigSep_univ_eq_bigSepL [(false, ch false c 3), (false, ch false c 4), (false, ch false c 5), (false, ch false c 6),
    (true, ch true c 3), (true, ch true c 4), (true, ch true c 5), (true, ch true c 6)] (by revert c; decide) (by revert c; decide)]
  simp only [bigSepL_cons_cons, bigSepL_singleton]
  rfl
theorem done_pc (d : Bool) (k : ℕ) (hk : 3 ≤ k) (c : Dev nD) : (At (pcM d (ch d c k)) c (val M d k c) : sProp 𝕄) = At (pcM d (ch d c k)) c (blk (OUT M) d (ch d c k)) := by
  rw [val_fin M d k hk, blk_OUT]

/-- Over the twelve transfers. -/
theorem twelve (Φ : Bool × Fin 6 → sProp 𝕄) : bigSep Finset.univ Φ
    = iprop(Φ (false, 0) ∗ Φ (true, 0) ∗ Φ (false, 1) ∗ Φ (true, 1) ∗ Φ (false, 2) ∗ Φ (true, 2)
      ∗ Φ (false, 3) ∗ Φ (true, 3) ∗ Φ (false, 4) ∗ Φ (true, 4) ∗ Φ (false, 5) ∗ Φ (true, 5)) := by
  rw [bigSep_univ_eq_bigSepL [(false, 0), (true, 0), (false, 1), (true, 1), (false, 2), (true, 2), (false, 3), (true, 3), (false, 4), (true, 4), (false, 5), (true, 5)]
    (by decide) (by decide)]
  simp only [bigSepL_cons_cons, bigSepL_singleton]
  rfl

/-- Both cells of a transfer, waited on, go back to their counters. -/
theorem close_one (κ : GSem nD τ sig → ℕ) (x : Key) (c : Dev nD) :
    iprop(records M κ ∗ atPos ER (xCell c x) (0 + 1) ∅ 0) ⊢ (|={Set.univ}=> semVal (xCell c x) 0 : sProp 𝕄) := by
  iintro ⟨#HR, H⟩
  have h : iprop(cellInv ER (Rd M) (κ (xCell c x)) (xCell c x) ∗ atPos ER (xCell c x) (0 + 1) ∅ 0) ⊢ (|={Set.univ}=> semVal (xCell c x) 0 : sProp 𝕄) :=
    Rounds.cell_close ER (Rd M) (Set.mem_univ _) id (duties_later M (xCell c x))
  iapply h
  isplitr; · iapply (inv_at M κ (x_mem c x)); iexact HR
  iexact H
theorem close_bar (κ : GSem nD τ sig → ℕ) (c : Dev nD) :
    iprop(records M κ ∗ atPos ER (barCell c) (0 + 1) ∅ 0) ⊢ (|={Set.univ}=> semVal (barCell c) 0 : sProp 𝕄) := by
  iintro ⟨#HR, H⟩
  have h : iprop(cellInv ER (Rd M) (κ (barCell c)) (barCell c) ∗ atPos ER (barCell c) (0 + 1) ∅ 0) ⊢ (|={Set.univ}=> semVal (barCell c) 0 : sProp 𝕄) :=
    Rounds.cell_close ER (Rd M) (Set.mem_univ _) id (duties_later M (barCell c))
  iapply h
  isplitr; · iapply (inv_at M κ (bar_mem c)); iexact HR
  iexact H
theorem close_all (κ : GSem nD τ sig → ℕ) (c : Dev nD) :
    iprop(records M κ ∗ bigSep (Finset.univ : Finset (Bool × Fin 6)) fun p => doneR (F := F) p.1 p.2 c)
      ⊢ (|={Set.univ}=> bigSep (Finset.univ : Finset Key) fun x => semVal (xCell c x) 0 : sProp 𝕄) := by
  have h1 : (bigSep (Finset.univ : Finset (Bool × Fin 6)) fun p => doneR (F := F) p.1 p.2 c)
      = (bigSep (Finset.univ : Finset Key) fun x => (atPos ER (xCell c x) (0 + 1) ∅ 0 : sProp 𝕄)) := by
    unfold doneR
    rw [bigSep_sep']
    rw [bigSep_univ_prod (fun x : Key => (atPos ER (xCell c x) (0 + 1) ∅ 0 : sProp 𝕄)), bigSep_univ_eq_bigSepL [false, true] (by decide) (by decide)]
    simp only [bigSepL_cons_cons, bigSepL_singleton]
    rfl
  have h2 : iprop(records M κ ∗ bigSep (Finset.univ : Finset Key) fun x => (atPos ER (xCell c x) (0 + 1) ∅ 0 : sProp 𝕄))
      ⊢ bigSep (Finset.univ : Finset Key) fun x => (iprop(|={Set.univ}=> semVal (xCell c x) 0) : sProp 𝕄) :=
    bigSep_with_persistent (R := records M κ) (fun x _ => close_one M κ x c)
  rw [h1]
  exact h2.trans (bigSep_fupd Finset.univ _)

/-! ## The body -/

variable (X : Vec F S2048x1024 .f32) (Wt : Vec F S1024x1024 .f32)

/-- What a device starts the body with. -/
def ringPre (κ : GSem nD τ sig → ℕ) (c : Dev nD) : sProp 𝕄 :=
  iprop(records M κ ∗ (bigSep (Finset.univ : Finset (Fin 6)) fun k => reached ER (xCell c (true, false, k)) 0)
    ∗ (bigSep (Finset.univ : Finset (Fin 6)) fun k => reached ER (xCell c (true, true, k)) 0)
    ∗ atPos ER (barCell c) 0 ∅ 0 ∗ dutyTok ER (barCell (tgt true c)) 0 false ∗ dutyTok ER (barCell (tgt false c)) 0 true
    ∗ cred (tallyAt (barCell c) () 2)
    ∗ (bigSep (Finset.univ : Finset (Bool × Fin 6)) fun p => sendR (F := F) p.1 p.2 c)
    ∗ (bigSep (Finset.univ : Finset (Bool × Fin 6)) fun p => waitR (F := F) p.1 p.2 c)
    ∗ levAts L lv)

def talkPre (κ : GSem nD τ sig → ℕ) (c : Dev nD) (W : Waits sig Unit) : sProp 𝕄 :=
  iprop(ringPre M κ c ∗ commAny (F := F) false c ∗ commAny (F := F) true c
    ∗ (xM.view.loc (c : Thread nD τ) ↦{fullShare} X) ∗ (wM.view.loc (c : Thread nD τ) ↦{fullShare} Wt)
    ∗ (∃ f : Buf (Elt F) (oM.view.loc (c : Thread nD τ)), oM.view.loc (c : Thread nD τ) ↦{fullShare} f) ∗ owes (c : Thread nD τ) (O₀ c) W)

/-- What it ends with: every counter back at zero, the buffers back, the result in place, nothing owed. -/
def talkPost (c : Dev nD) : sProp 𝕄 :=
  iprop(semVal (barCell c) 0 ∗ (bigSep (Finset.univ : Finset Key) fun x => semVal (xCell c x) 0)
    ∗ commAny (F := F) false c ∗ commAny (F := F) true c
    ∗ (xM.view.loc (c : Thread nD τ) ↦{fullShare} X) ∗ (wM.view.loc (c : Thread nD τ) ↦{fullShare} Wt)
    ∗ (oM.view.loc (c : Thread nD τ) ↦{fullShare} OUT M) ∗ ∃ W, owes (c : Thread nD τ) (0 : CellTallies nD τ sig Unit) W)

abbrev prog : Prog (TpuEff nD τ sig (Elt F) Λ₀ .tc) PUnit :=
  cc1__ar_body (F := F) xM (Memref.isWhole_whole _) wM (Memref.isWhole_whole _) oM (Memref.isWhole_whole _)
    (Memref.whole cc1_scratch0) (Memref.isWhole_whole _) (Memref.whole cc1_scratch1) (Memref.isWhole_whole _)
    cc1_scratch2 cc1_scratch3 cc1_scratch4 cc1_scratch5 cc1_scratch6 cc1_scratch7 cc1_scratch8 cc1_scratch9

theorem z2 : (![0, 0] : Fin 2 → ℕ) = fun _ => 0 := by decide

/-! Reads and writes of the staged buffers whole. -/

theorem wp_load_x (c : Dev nD) (f : Vec F S2048x1024 .f32) {off : Fin 2 → ℕ} (ho : off = fun _ => 0)
    {hin : ∀ a, off a + S2048x1024.size a ≤ S2048x1024.size a}
    {hl : (xM : Memref sig .tc .vmem S2048x1024 .f32).view.LoadsAt (Rect.unit (s := S2048x1024) off S2048x1024.size hin).toLoadRect}
    {α : Type} {Q : α → sProp 𝕄} {k : Vec F S2048x1024 .f32 → Prog (TpuEff nD τ sig (Elt F) Λ₀ .tc) α} :
    (xM.view.loc (c : Thread nD τ) ↦{fullShare} f)
      ⊢ iprop(((xM.view.loc (c : Thread nD τ) ↦{fullShare} f) -∗ wp frame (wpE (defs₀ (F := F)) 𝒱₀ (c : Thread nD τ) none) Set.univ (k f) Q)
          -∗ wp frame (wpE (defs₀ (F := F)) 𝒱₀ (c : Thread nD τ) none) Set.univ
            (.op (.load xM (Rect.unit (s := S2048x1024) off S2048x1024.size hin).toLoadRect hl) k) Q) := by
  have h := wp_load (defs := defs₀ (F := F)) 𝒱₀ (c : Thread nD τ) none (Γ := PendingWaitsCtx.empty) Set.univ (Q := Q) (m := xM)
    (r := (Rect.unit (s := S2048x1024) off S2048x1024.size hin).toLoadRect) (hl := hl) (k := k) (q := fullShare) (f := f) (S := Finset.univ) (Finset.subset_univ _)
  have e : xM.view.readAt (Elt F) (Rect.unit (s := S2048x1024) off S2048x1024.size hin).toLoadRect f = f := Memref.readAt_unit_zero (Elt F) cc1_stg0_0 ho hin f
  rw [e] at h
  exact h
theorem wp_load_w (c : Dev nD) (f : Vec F S1024x1024 .f32) {off : Fin 2 → ℕ} (ho : off = fun _ => 0)
    {hin : ∀ a, off a + S1024x1024.size a ≤ S1024x1024.size a}
    {hl : (wM : Memref sig .tc .vmem S1024x1024 .f32).view.LoadsAt (Rect.unit (s := S1024x1024) off S1024x1024.size hin).toLoadRect}
    {α : Type} {Q : α → sProp 𝕄} {k : Vec F S1024x1024 .f32 → Prog (TpuEff nD τ sig (Elt F) Λ₀ .tc) α} :
    (wM.view.loc (c : Thread nD τ) ↦{fullShare} f)
      ⊢ iprop(((wM.view.loc (c : Thread nD τ) ↦{fullShare} f) -∗ wp frame (wpE (defs₀ (F := F)) 𝒱₀ (c : Thread nD τ) none) Set.univ (k f) Q)
          -∗ wp frame (wpE (defs₀ (F := F)) 𝒱₀ (c : Thread nD τ) none) Set.univ
            (.op (.load wM (Rect.unit (s := S1024x1024) off S1024x1024.size hin).toLoadRect hl) k) Q) := by
  have h := wp_load (defs := defs₀ (F := F)) 𝒱₀ (c : Thread nD τ) none (Γ := PendingWaitsCtx.empty) Set.univ (Q := Q) (m := wM)
    (r := (Rect.unit (s := S1024x1024) off S1024x1024.size hin).toLoadRect) (hl := hl) (k := k) (q := fullShare) (f := f) (S := Finset.univ) (Finset.subset_univ _)
  have e : wM.view.readAt (Elt F) (Rect.unit (s := S1024x1024) off S1024x1024.size hin).toLoadRect f = f := Memref.readAt_unit_zero (Elt F) cc1_stg1_0 ho hin f
  rw [e] at h
  exact h
theorem wp_load_o (c : Dev nD) (f : Vec F S2048x1024 .f32) {off : Fin 2 → ℕ} (ho : off = fun _ => 0)
    {hin : ∀ a, off a + S2048x1024.size a ≤ S2048x1024.size a}
    {hl : (oM : Memref sig .tc .vmem S2048x1024 .f32).view.LoadsAt (Rect.unit (s := S2048x1024) off S2048x1024.size hin).toLoadRect}
    {α : Type} {Q : α → sProp 𝕄} {k : Vec F S2048x1024 .f32 → Prog (TpuEff nD τ sig (Elt F) Λ₀ .tc) α} :
    (oM.view.loc (c : Thread nD τ) ↦{fullShare} f)
      ⊢ iprop(((oM.view.loc (c : Thread nD τ) ↦{fullShare} f) -∗ wp frame (wpE (defs₀ (F := F)) 𝒱₀ (c : Thread nD τ) none) Set.univ (k f) Q)
          -∗ wp frame (wpE (defs₀ (F := F)) 𝒱₀ (c : Thread nD τ) none) Set.univ
            (.op (.load oM (Rect.unit (s := S2048x1024) off S2048x1024.size hin).toLoadRect hl) k) Q) := by
  have h := wp_load (defs := defs₀ (F := F)) 𝒱₀ (c : Thread nD τ) none (Γ := PendingWaitsCtx.empty) Set.univ (Q := Q) (m := oM)
    (r := (Rect.unit (s := S2048x1024) off S2048x1024.size hin).toLoadRect) (hl := hl) (k := k) (q := fullShare) (f := f) (S := Finset.univ) (Finset.subset_univ _)
  have e : oM.view.readAt (Elt F) (Rect.unit (s := S2048x1024) off S2048x1024.size hin).toLoadRect f = f := Memref.readAt_unit_zero (Elt F) cc1_stg2_0 ho hin f
  rw [e] at h
  exact h
/-- A write of the result buffer whole. -/
theorem wp_store_o (c : Dev nD) (f w : Vec F S2048x1024 .f32) {off : Fin 2 → ℕ} (ho : off = fun _ => 0)
    {hin : ∀ a, off a + S2048x1024.size a ≤ S2048x1024.size a}
    {hx : ((oM : Memref sig .tc .vmem S2048x1024 .f32).access (Rect.unit (s := S2048x1024) off S2048x1024.size hin)).Stores Finset.univ}
    {hm : (Finset.univ : Finset (Rect.unit (s := S2048x1024) off S2048x1024.size hin).shape.Idx) = Finset.univ ∨ ∀ a, (Rect.unit (s := S2048x1024) off S2048x1024.size hin).stride a = 1}
    {α : Type} {Q : α → sProp 𝕄} {k : PUnit → Prog (TpuEff nD τ sig (Elt F) Λ₀ .tc) α} :
    (oM.view.loc (c : Thread nD τ) ↦{fullShare} f)
      ⊢ iprop(((oM.view.loc (c : Thread nD τ) ↦{fullShare} w) -∗ wp frame (wpE (defs₀ (F := F)) 𝒱₀ (c : Thread nD τ) none) Set.univ (k ⟨⟩) Q)
          -∗ wp frame (wpE (defs₀ (F := F)) 𝒱₀ (c : Thread nD τ) none) Set.univ
            (.op (.store oM (Rect.unit (s := S2048x1024) off S2048x1024.size hin) w Finset.univ hx hm) k) Q) := by
  have h := wp_store (defs := defs₀ (F := F)) 𝒱₀ (c : Thread nD τ) none (Γ := PendingWaitsCtx.empty) Set.univ (Q := Q) (m := oM)
    (r := Rect.unit (s := S2048x1024) off S2048x1024.size hin) (w := w) (Mk := Finset.univ) (hx := hx) (hm := hm) (k := k) (f := f) (S := Finset.univ) (Finset.subset_univ _)
  have e : (oM.access (Rect.unit (s := S2048x1024) off S2048x1024.size hin)).write (Elt F) f w Finset.univ = w := Memref.write_access_unit_zero_univ (Elt F) cc1_stg2_0 ho hin f w
  rw [e] at h
  exact h

set_option maxHeartbeats 4000000 in
theorem talkRun [∀ e, Nonempty (Elt F e)] (κ : GSem nD τ sig → ℕ) (c : Dev nD) (hM : M c = k1_pay1 X Wt) (W : Waits sig Unit) (Kt : PUnit → sProp 𝕄) :
    iprop(talkPre M X Wt κ c W ∗ (talkPost M X Wt c -∗ Kt ⟨⟩))
      ⊢ wp frame (wpE (defs₀ (F := F)) 𝒱₀ (c : Thread nD τ) none) Set.univ (prog (F := F)) Kt := by
  unfold prog
  simp only [cc1__ar_body_eq_skeleton]; unfold cc1__ar_body_skel
  simp only [k1_part1_eq_skeleton]; unfold k1_part1_skel
  simp only [semSignalWord, semWaitWord, Prog.lift, Prog.bind_op, Prog.bind_ret, Prog.pure_eq_ret, Prog.bind_assoc, wp_deviceId]
  unfold talkPre ringPre
  rw [twelve, twelve]
  iintro ⟨⟨⟨#HR, #Hqf, #Hqt, HatB, HtF, HtT, HcB, Hsend, Hwait, #Hlev⟩, Hcf, Hct, Hx, Hw, ⟨%f0, Hy⟩, HO⟩, Hk⟩
  icases Hsend with ⟨Sf0, St0, Sf1, St1, Sf2, St2, Sf3, St3, Sf4, St4, Sf5, St5⟩
  icases Hwait with ⟨Wf0, Wt0, Wf1, Wt1, Wf2, Wt2, Wf3, Wt3, Wf4, Wt4, Wf5, Wt5⟩
  unfold waitR
  icases Wf0 with ⟨Wf0, Vf0, Kf0⟩
  icases Wt0 with ⟨Wt0, Vt0, Kt0⟩
  icases Wf1 with ⟨Wf1, Vf1, Kf1⟩
  icases Wt1 with ⟨Wt1, Vt1, Kt1⟩
  icases Wf2 with ⟨Wf2, Vf2, Kf2⟩
  icases Wt2 with ⟨Wt2, Vt2, Kt2⟩
  icases Wf3 with ⟨Wf3, Vf3, Kf3⟩
  icases Wt3 with ⟨Wt3, Vt3, Kt3⟩
  icases Wf4 with ⟨Wf4, Vf4, Kf4⟩
  icases Wt4 with ⟨Wt4, Vt4, Kt4⟩
  icases Wf5 with ⟨Wf5, Vf5, Kf5⟩
  icases Wt5 with ⟨Wt5, Vt5, Kt5⟩
  -- tell both neighbours: the slots they write to and their cells go with it
  ihave Hcf := (comm_split (F := F) false c) $$ Hcf
  ihave Hct := (comm_split (F := F) true c) $$ Hct
  rw [dev1_eq c, dev2_eq c]
  iapply (Rounds.wp_signal 𝒱₀ ER (Rd M) (c : Thread nD τ) none (dst := (tgt true c : Thread nD τ)) (r := 0) (d := false) (κ := κ (barCell (tgt true c)))
      (by rw [duties_bar]; exact Finset.mem_univ _) (amount_bar M (tgt true c) false) () (O₁ c) rfl) $$ [HO HtF Hcf]
  · isplitr; · iapply (inv_at M κ (bar_mem (tgt true c))); iexact HR
    isplitl [HO]; · iexact HO
    isplitl [HtF]; · iexact HtF
    isplitl [Hcf]
    · rw [payload_bar]; unfold barPay
      rw [show tgt false (tgt true c) = c from tgt_frm false c]
      isplitl [Hcf]; · iexact Hcf
      iexact Hqf
    · iapply (reached_at M κ (tgt true c)); iexact HR
  iintro HO
  iapply (Rounds.wp_signal 𝒱₀ ER (Rd M) (c : Thread nD τ) none (dst := (tgt false c : Thread nD τ)) (r := 0) (d := true) (κ := κ (barCell (tgt false c)))
      (by rw [duties_bar]; exact Finset.mem_univ _) (amount_bar M (tgt false c) true) () (Rem c 12) rfl) $$ [HO HtT Hct]
  · isplitr; · iapply (inv_at M κ (bar_mem (tgt false c))); iexact HR
    isplitl [HO]; · iexact HO
    isplitl [HtT]; · iexact HtT
    isplitl [Hct]
    · rw [payload_bar]; unfold barPay
      rw [show tgt true (tgt false c) = c from tgt_frm true c]
      isplitl [Hct]; · iexact Hct
      iexact Hqt
    · iapply (reached_at M κ (tgt false c)); iexact HR
  iintro HO
  -- wait for both
  iapply (Rounds.wp_wait_rest_token 𝒱₀ ER (Rd M) (c : Thread nD τ) none (κ := κ (barCell c))
      (wpE_semWait_eq 𝒱₀ (c : Thread nD τ) none Set.univ) (Set.mem_univ _) () (O := Rem c 12) (W := W) (R := 0) (m := 0) (T := ∅)
      ((Nat.zero_add 2).trans (expect_bar M c).symm)) $$ [HcB HO HatB]
  · isplitr; · iapply (inv_at M κ (bar_mem c)); iexact HR
    isplitl [HcB]; · iexact HcB
    isplitl [HO]; · iexact HO
    isplitr; · iapply (mayWait_rem c (.reg barrier0) 12 (by rw [lv_bar]; decide)); iexact Hlev
    iexact HatB
  iintro ⟨HO, HatB, -, Hpay⟩
  ihave Hp : iprop(barPay (F := F) false c ∗ barPay (F := F) true c) $$ [Hpay]
  · iapply (Entails.of_eq (rest_bar M c)); iexact Hpay
  unfold barPay
  icases Hp with ⟨⟨⟨Af0, Af1, Af2⟩, #Hof'⟩, ⟨⟨At0, At1, At2⟩, #Hot'⟩⟩
  ihave #Hof : openR (F := F) false c $$ []
  · unfold openR; iexact Hof'
  ihave #Hot : openR (F := F) true c $$ []
  · unfold openR; iexact Hot'
  -- the device's own product
  iapply (wp_load_x c X z2) $$ [Hx]
  · iexact Hx
  iintro Hx
  iapply (wp_load_w c Wt z2) $$ [Hw]
  · iexact Hw
  iintro Hw
  iapply (wp_load_o c f0 z2) $$ [Hy]
  · iexact Hy
  iintro Hy
  iapply (wp_store_o c f0 (k1_pay1 X Wt) z2) $$ [Hy]
  · iexact Hy
  iintro Hy
  ihave Hy := (Entails.of_eq ((congrArg (fun v => ((oM : Memref sig .tc .vmem S2048x1024 .f32).view.loc (c : Thread nD τ) ↦{fullShare} v : sProp 𝕄)) hM.symm).trans
    ((pieces_eq c (M c)).trans (eight c _)))) $$ Hy
  icases Hy with ⟨Pf0, Pf1, Pf2, Pf3, Pt0, Pt1, Pt2, Pt3⟩
  ihave HO : ow c 12 $$ [HO]
  · unfold ow; iexists _; iexact HO
  simp only [k1_part2_eq_skeleton]; unfold k1_part2_skel
  simp only [Prog.lift, Prog.bind_op, Prog.bind_ret, Prog.pure_eq_ret, Prog.bind_assoc, wp_deviceId]
  -- transfer 0, clockwise
  iapply (wp_xsend M κ false 0 c 11 rfl (dev3_eq c) (pc_of (off1_eq c 0) _) rfl rfl rfl) $$ [Pf0 Af0 HO Sf0]
  · isplitr; · iexact HR
    isplitr; · iexact Hof
    isplitl [Pf0]; · iexact Pf0
    isplitl [Af0]; · iapply (Entails.of_eq (any_sl (F := F) false (tgt false c) c 0 0 rfl)); iexact Af0
    isplitr; · iapply (Entails.of_eq (extra_none (F := F) false 0 (tgt false c) (by decide))); iempintro
    isplitl [HO]; · iexact HO
    iexact Sf0
  iintro ⟨Cf0, HO⟩
  -- transfer 0, counter-clockwise
  iapply (wp_xsend M κ true 0 c 10 rfl (dev4_eq c) (pc_of (off2_eq c 0) _) rfl rfl rfl) $$ [Pt0 At0 HO St0]
  · isplitr; · iexact HR
    isplitr; · iexact Hot
    isplitl [Pt0]; · iexact Pt0
    isplitl [At0]; · iapply (Entails.of_eq (any_sl (F := F) true (tgt true c) c 0 0 rfl)); iexact At0
    isplitr; · iapply (Entails.of_eq (extra_none (F := F) true 0 (tgt true c) (by decide))); iempintro
    isplitl [HO]; · iexact HO
    iexact St0
  iintro ⟨Ct0, HO⟩
  simp only [k1_part3_eq_skeleton]; unfold k1_part3_skel
  simp only [Prog.lift, Prog.bind_op, Prog.bind_ret, Prog.pure_eq_ret, Prog.bind_assoc, wp_deviceId]
  iapply (wp_swait M κ false 0 c 10 (by decide) rfl) $$ [Cf0 HO Wf0]
  · isplitr; · iexact HR
    isplitr; · iexact Hlev
    isplitl [Cf0]; · iexact Cf0
    isplitl [HO]; · iexact HO
    iexact Wf0
  iintro ⟨HO, Wf0, Pf0⟩
  iapply (wp_rwait M κ false 0 c 10 (by decide) rfl) $$ [Kf0 HO Vf0]
  · isplitr; · iexact HR
    isplitr; · iexact Hlev
    isplitl [Kf0]; · iexact Kf0
    isplitl [HO]; · iexact HO
    iexact Vf0
  iintro ⟨HO, Vf0, Bf0, -⟩
  ihave Bf0 := (Entails.of_eq (land_sl (F := F) false c (frm false c) 0 0 rfl (val M false (Fin.val (0 : Fin 6)) (frm false c)))) $$ Bf0
  iapply (wp_swait M κ true 0 c 10 (by decide) rfl) $$ [Ct0 HO Wt0]
  · isplitr; · iexact HR
    isplitr; · iexact Hlev
    isplitl [Ct0]; · iexact Ct0
    isplitl [HO]; · iexact HO
    iexact Wt0
  iintro ⟨HO, Wt0, Pt0⟩
  iapply (wp_rwait M κ true 0 c 10 (by decide) rfl) $$ [Kt0 HO Vt0]
  · isplitr; · iexact HR
    isplitr; · iexact Hlev
    isplitl [Kt0]; · iexact Kt0
    isplitl [HO]; · iexact HO
    iexact Vt0
  iintro ⟨HO, Vt0, Bt0, -⟩
  ihave Bt0 := (Entails.of_eq (land_sl (F := F) true c (frm true c) 0 0 rfl (val M true (Fin.val (0 : Fin 6)) (frm true c)))) $$ Bt0
  iapply (wp_pload false (ch false c 1) c (off3_eq c 0)) $$ [Pf1]
  · iexact Pf1
  iintro Pf1
  iapply (wp_sload false 0 c rfl rfl) $$ [Bf0]
  · iexact Bf0
  iintro %vf0 %hf0 Bf0
  simp only [k1_part4_eq_skeleton]; unfold k1_part4_skel
  simp only [Prog.lift, Prog.bind_op, Prog.bind_ret, Prog.pure_eq_ret, Prog.bind_assoc, wp_deviceId]
  iapply (wp_pload false (ch false c 1) c (off3_eq c 0)) $$ [Pf1]
  · iexact Pf1
  iintro Pf1
  iapply (wp_pstore false (ch false c 1) c (off3_eq c 0)) $$ [Pf1]
  · iexact Pf1
  iintro Pf1
  ihave Pf1 : At (F := F) (pcM false (ch false c 1)) c (val M false 1 c) $$ [Pf1]
  · iapply (Entails.of_eq (congrArg (At (F := F) (pcM false (ch false c 1)) c) (add_val M false c 0 (by decide) hf0))); iexact Pf1
  iapply (wp_pload true (ch true c 1) c (off4_eq c 0)) $$ [Pt1]
  · iexact Pt1
  iintro Pt1
  iapply (wp_sload true 0 c rfl rfl) $$ [Bt0]
  · iexact Bt0
  iintro %vt0 %ht0 Bt0
  iapply (wp_pload true (ch true c 1) c (off4_eq c 0)) $$ [Pt1]
  · iexact Pt1
  iintro Pt1
  iapply (wp_pstore true (ch true c 1) c (off4_eq c 0)) $$ [Pt1]
  · iexact Pt1
  iintro Pt1
  ihave Pt1 : At (F := F) (pcM true (ch true c 1)) c (val M true 1 c) $$ [Pt1]
  · iapply (Entails.of_eq (congrArg (At (F := F) (pcM true (ch true c 1)) c) (add_val M true c 0 (by decide) ht0))); iexact Pt1
  simp only [k1_part5_eq_skeleton]; unfold k1_part5_skel
  simp only [Prog.lift, Prog.bind_op, Prog.bind_ret, Prog.pure_eq_ret, Prog.bind_assoc, wp_deviceId]
  -- transfer 1, clockwise
  iapply (wp_xsend M κ false 1 c 9 rfl (dev5_eq c) (pc_of (off1_eq c 1) _) rfl rfl rfl) $$ [Pf1 Af1 HO Sf1 Pt0]
  · isplitr; · iexact HR
    isplitr; · iexact Hof
    isplitl [Pf1]; · iexact Pf1
    isplitl [Af1]; · iapply (Entails.of_eq (any_sl (F := F) false (tgt false c) c 1 1 rfl)); iexact Af1
    isplitl [Pt0]; · iapply (extra_give (F := F) false 1 c (by decide) (val M true 0 c)); iexact Pt0
    isplitl [HO]; · iexact HO
    iexact Sf1
  iintro ⟨Cf1, HO⟩
  -- transfer 1, counter-clockwise
  iapply (wp_xsend M κ true 1 c 8 rfl (dev6_eq c) (pc_of (off2_eq c 1) _) rfl rfl rfl) $$ [Pt1 At1 HO St1 Pf0]
  · isplitr; · iexact HR
    isplitr; · iexact Hot
    isplitl [Pt1]; · iexact Pt1
    isplitl [At1]; · iapply (Entails.of_eq (any_sl (F := F) true (tgt true c) c 1 1 rfl)); iexact At1
    isplitl [Pf0]; · iapply (extra_give (F := F) true 1 c (by decide) (val M false 0 c)); iexact Pf0
    isplitl [HO]; · iexact HO
    iexact St1
  iintro ⟨Ct1, HO⟩
  iapply (wp_swait M κ false 1 c 8 (by decide) rfl) $$ [Cf1 HO Wf1]
  · isplitr; · iexact HR
    isplitr; · iexact Hlev
    isplitl [Cf1]; · iexact Cf1
    isplitl [HO]; · iexact HO
    iexact Wf1
  iintro ⟨HO, Wf1, Pf1⟩
  iapply (wp_rwait M κ false 1 c 8 (by decide) rfl) $$ [Kf1 HO Vf1]
  · isplitr; · iexact HR
    isplitr; · iexact Hlev
    isplitl [Kf1]; · iexact Kf1
    isplitl [HO]; · iexact HO
    iexact Vf1
  iintro ⟨HO, Vf1, Bf1, At3⟩
  ihave Bf1 := (Entails.of_eq (land_sl (F := F) false c (frm false c) 1 1 rfl (val M false (Fin.val (1 : Fin 6)) (frm false c)))) $$ Bf1
  simp only [k1_part6_eq_skeleton]; unfold k1_part6_skel
  simp only [Prog.lift, Prog.bind_op, Prog.bind_ret, Prog.pure_eq_ret, Prog.bind_assoc, wp_deviceId]
  iapply (wp_swait M κ true 1 c 8 (by decide) rfl) $$ [Ct1 HO Wt1]
  · isplitr; · iexact HR
    isplitr; · iexact Hlev
    isplitl [Ct1]; · iexact Ct1
    isplitl [HO]; · iexact HO
    iexact Wt1
  iintro ⟨HO, Wt1, Pt1⟩
  iapply (wp_rwait M κ true 1 c 8 (by decide) rfl) $$ [Kt1 HO Vt1]
  · isplitr; · iexact HR
    isplitr; · iexact Hlev
    isplitl [Kt1]; · iexact Kt1
    isplitl [HO]; · iexact HO
    iexact Vt1
  iintro ⟨HO, Vt1, Bt1, Af3⟩
  ihave Bt1 := (Entails.of_eq (land_sl (F := F) true c (frm true c) 1 1 rfl (val M true (Fin.val (1 : Fin 6)) (frm true c)))) $$ Bt1
  iapply (wp_pload false (ch false c 2) c (off3_eq c 1)) $$ [Pf2]
  · iexact Pf2
  iintro Pf2
  iapply (wp_sload false 1 c rfl rfl) $$ [Bf1]
  · iexact Bf1
  iintro %vf1 %hf1 Bf1
  iapply (wp_pload false (ch false c 2) c (off3_eq c 1)) $$ [Pf2]
  · iexact Pf2
  iintro Pf2
  iapply (wp_pstore false (ch false c 2) c (off3_eq c 1)) $$ [Pf2]
  · iexact Pf2
  iintro Pf2
  ihave Pf2 : At (F := F) (pcM false (ch false c 2)) c (val M false 2 c) $$ [Pf2]
  · iapply (Entails.of_eq (congrArg (At (F := F) (pcM false (ch false c 2)) c) (add_val M false c 1 (by decide) hf1))); iexact Pf2
  iapply (wp_pload true (ch true c 2) c (off4_eq c 1)) $$ [Pt2]
  · iexact Pt2
  iintro Pt2
  iapply (wp_sload true 1 c rfl rfl) $$ [Bt1]
  · iexact Bt1
  iintro %vt1 %ht1 Bt1
  simp only [k1_part7_eq_skeleton]; unfold k1_part7_skel
  simp only [Prog.lift, Prog.bind_op, Prog.bind_ret, Prog.pure_eq_ret, Prog.bind_assoc, wp_deviceId]
  iapply (wp_pload true (ch true c 2) c (off4_eq c 1)) $$ [Pt2]
  · iexact Pt2
  iintro Pt2
  iapply (wp_pstore true (ch true c 2) c (off4_eq c 1)) $$ [Pt2]
  · iexact Pt2
  iintro Pt2
  ihave Pt2 : At (F := F) (pcM true (ch true c 2)) c (val M true 2 c) $$ [Pt2]
  · iapply (Entails.of_eq (congrArg (At (F := F) (pcM true (ch true c 2)) c) (add_val M true c 1 (by decide) ht1))); iexact Pt2
  -- transfer 2, clockwise
  iapply (wp_xsend M κ false 2 c 7 rfl (dev7_eq c) (pc_of (off1_eq c 2) _) rfl rfl rfl) $$ [Pf2 Af2 HO Sf2 Pt1]
  · isplitr; · iexact HR
    isplitr; · iexact Hof
    isplitl [Pf2]; · iexact Pf2
    isplitl [Af2]; · iapply (Entails.of_eq (any_sl (F := F) false (tgt false c) c 2 2 rfl)); iexact Af2
    isplitl [Pt1]; · iapply (extra_give (F := F) false 2 c (by decide) (val M true 1 c)); iexact Pt1
    isplitl [HO]; · iexact HO
    iexact Sf2
  iintro ⟨Cf2, HO⟩
  simp only [k1_part8_eq_skeleton]; unfold k1_part8_skel
  simp only [Prog.lift, Prog.bind_op, Prog.bind_ret, Prog.pure_eq_ret, Prog.bind_assoc, wp_deviceId]
  -- transfer 2, counter-clockwise
  iapply (wp_xsend M κ true 2 c 6 rfl (dev8_eq c) (pc_of (off2_eq c 2) _) rfl rfl rfl) $$ [Pt2 At2 HO St2 Pf1]
  · isplitr; · iexact HR
    isplitr; · iexact Hot
    isplitl [Pt2]; · iexact Pt2
    isplitl [At2]; · iapply (Entails.of_eq (any_sl (F := F) true (tgt true c) c 2 2 rfl)); iexact At2
    isplitl [Pf1]; · iapply (extra_give (F := F) true 2 c (by decide) (val M false 1 c)); iexact Pf1
    isplitl [HO]; · iexact HO
    iexact St2
  iintro ⟨Ct2, HO⟩
  iapply (wp_swait M κ false 2 c 6 (by decide) rfl) $$ [Cf2 HO Wf2]
  · isplitr; · iexact HR
    isplitr; · iexact Hlev
    isplitl [Cf2]; · iexact Cf2
    isplitl [HO]; · iexact HO
    iexact Wf2
  iintro ⟨HO, Wf2, Pf2⟩
  iapply (wp_rwait M κ false 2 c 6 (by decide) rfl) $$ [Kf2 HO Vf2]
  · isplitr; · iexact HR
    isplitr; · iexact Hlev
    isplitl [Kf2]; · iexact Kf2
    isplitl [HO]; · iexact HO
    iexact Vf2
  iintro ⟨HO, Vf2, Bf2, At4⟩
  ihave Bf2 := (Entails.of_eq (land_sl (F := F) false c (frm false c) 2 2 rfl (val M false (Fin.val (2 : Fin 6)) (frm false c)))) $$ Bf2
  iapply (wp_swait M κ true 2 c 6 (by decide) rfl) $$ [Ct2 HO Wt2]
  · isplitr; · iexact HR
    isplitr; · iexact Hlev
    isplitl [Ct2]; · iexact Ct2
    isplitl [HO]; · iexact HO
    iexact Wt2
  iintro ⟨HO, Wt2, Pt2⟩
  simp only [k1_part9_eq_skeleton]; unfold k1_part9_skel
  simp only [Prog.lift, Prog.bind_op, Prog.bind_ret, Prog.pure_eq_ret, Prog.bind_assoc, wp_deviceId]
  iapply (wp_rwait M κ true 2 c 6 (by decide) rfl) $$ [Kt2 HO Vt2]
  · isplitr; · iexact HR
    isplitr; · iexact Hlev
    isplitl [Kt2]; · iexact Kt2
    isplitl [HO]; · iexact HO
    iexact Vt2
  iintro ⟨HO, Vt2, Bt2, Af4⟩
  ihave Bt2 := (Entails.of_eq (land_sl (F := F) true c (frm true c) 2 2 rfl (val M true (Fin.val (2 : Fin 6)) (frm true c)))) $$ Bt2
  iapply (wp_pload false (ch false c 3) c (off3_eq c 2)) $$ [Pf3]
  · iexact Pf3
  iintro Pf3
  iapply (wp_sload false 2 c rfl rfl) $$ [Bf2]
  · iexact Bf2
  iintro %vf2 %hf2 Bf2
  iapply (wp_pload false (ch false c 3) c (off3_eq c 2)) $$ [Pf3]
  · iexact Pf3
  iintro Pf3
  iapply (wp_pstore false (ch false c 3) c (off3_eq c 2)) $$ [Pf3]
  · iexact Pf3
  iintro Pf3
  ihave Pf3 : At (F := F) (pcM false (ch false c 3)) c (val M false 3 c) $$ [Pf3]
  · iapply (Entails.of_eq (congrArg (At (F := F) (pcM false (ch false c 3)) c) (add_val M false c 2 (by decide) hf2))); iexact Pf3
  iapply (wp_pload true (ch true c 3) c (off4_eq c 2)) $$ [Pt3]
  · iexact Pt3
  iintro Pt3
  iapply (wp_sload true 2 c rfl rfl) $$ [Bt2]
  · iexact Bt2
  iintro %vt2 %ht2 Bt2
  iapply (wp_pload true (ch true c 3) c (off4_eq c 2)) $$ [Pt3]
  · iexact Pt3
  iintro Pt3
  iapply (wp_pstore true (ch true c 3) c (off4_eq c 2)) $$ [Pt3]
  · iexact Pt3
  iintro Pt3
  ihave Pt3 : At (F := F) (pcM true (ch true c 3)) c (val M true 3 c) $$ [Pt3]
  · iapply (Entails.of_eq (congrArg (At (F := F) (pcM true (ch true c 3)) c) (add_val M true c 2 (by decide) ht2))); iexact Pt3
  simp only [k1_part10_eq_skeleton]; unfold k1_part10_skel
  simp only [Prog.lift, Prog.bind_op, Prog.bind_ret, Prog.pure_eq_ret, Prog.bind_assoc, wp_deviceId]
  -- transfer 3, clockwise
  iapply (wp_xsend M κ false 3 c 5 rfl (dev9_eq c) (pc_of (off5_eq c 0) _) (pc_of (off5_eq c 0) _) rfl rfl) $$ [Pf3 Af3 HO Sf3 Pt2]
  · isplitr; · iexact HR
    isplitr; · iexact Hof
    isplitl [Pf3]; · iexact Pf3
    isplitl [Af3]; · iapply (Entails.of_eq (extra_use (F := F) true 1 3 c (by decide) rfl)); iexact Af3
    isplitl [Pt2]; · iapply (extra_give (F := F) false 3 c (by decide) (val M true 2 c)); iexact Pt2
    isplitl [HO]; · iexact HO
    iexact Sf3
  iintro ⟨Cf3, HO⟩
  -- transfer 3, counter-clockwise
  iapply (wp_xsend M κ true 3 c 4 rfl (dev10_eq c) (pc_of (off6_eq c 0) _) (pc_of (off6_eq c 0) _) rfl rfl) $$ [Pt3 At3 HO St3 Pf2]
  · isplitr; · iexact HR
    isplitr; · iexact Hot
    isplitl [Pt3]; · iexact Pt3
    isplitl [At3]; · iapply (Entails.of_eq (extra_use (F := F) false 1 3 c (by decide) rfl)); iexact At3
    isplitl [Pf2]; · iapply (extra_give (F := F) true 3 c (by decide) (val M false 2 c)); iexact Pf2
    isplitl [HO]; · iexact HO
    iexact St3
  iintro ⟨Ct3, HO⟩
  iapply (wp_swait M κ false 3 c 4 (by decide) rfl) $$ [Cf3 HO Wf3]
  · isplitr; · iexact HR
    isplitr; · iexact Hlev
    isplitl [Cf3]; · iexact Cf3
    isplitl [HO]; · iexact HO
    iexact Wf3
  iintro ⟨HO, Wf3, Pf3⟩
  iapply (wp_rwait M κ false 3 c 4 (by decide) rfl) $$ [Kf3 HO Vf3]
  · isplitr; · iexact HR
    isplitr; · iexact Hlev
    isplitl [Kf3]; · iexact Kf3
    isplitl [HO]; · iexact HO
    iexact Vf3
  iintro ⟨HO, Vf3, Pf4, At5⟩
  ihave Pf4 : At (F := F) (pcM false (ch false c 4)) c (val M false 4 c) $$ [Pf4]
  · iapply (Entails.of_eq (land_pc M false c 3 (by decide))); iexact Pf4
  simp only [k1_part11_eq_skeleton]; unfold k1_part11_skel
  simp only [Prog.lift, Prog.bind_op, Prog.bind_ret, Prog.pure_eq_ret, Prog.bind_assoc, wp_deviceId]
  iapply (wp_swait M κ true 3 c 4 (by decide) rfl) $$ [Ct3 HO Wt3]
  · isplitr; · iexact HR
    isplitr; · iexact Hlev
    isplitl [Ct3]; · iexact Ct3
    isplitl [HO]; · iexact HO
    iexact Wt3
  iintro ⟨HO, Wt3, Pt3⟩
  iapply (wp_rwait M κ true 3 c 4 (by decide) rfl) $$ [Kt3 HO Vt3]
  · isplitr; · iexact HR
    isplitr; · iexact Hlev
    isplitl [Kt3]; · iexact Kt3
    isplitl [HO]; · iexact HO
    iexact Vt3
  iintro ⟨HO, Vt3, Pt4, Af5⟩
  ihave Pt4 : At (F := F) (pcM true (ch true c 4)) c (val M true 4 c) $$ [Pt4]
  · iapply (Entails.of_eq (land_pc M true c 3 (by decide))); iexact Pt4
  -- transfer 4, clockwise
  iapply (wp_xsend M κ false 4 c 3 rfl (dev11_eq c) (pc_of (off5_eq c 1) _) (pc_of (off5_eq c 1) _) rfl rfl) $$ [Pf4 Af4 HO Sf4]
  · isplitr; · iexact HR
    isplitr; · iexact Hof
    isplitl [Pf4]; · iexact Pf4
    isplitl [Af4]; · iapply (Entails.of_eq (extra_use (F := F) true 2 4 c (by decide) rfl)); iexact Af4
    isplitr; · iapply (Entails.of_eq (extra_none (F := F) false 4 (tgt false c) (by decide))); iempintro
    isplitl [HO]; · iexact HO
    iexact Sf4
  iintro ⟨Cf4, HO⟩
  simp only [k1_part12_eq_skeleton]; unfold k1_part12_skel
  simp only [Prog.lift, Prog.bind_op, Prog.bind_ret, Prog.pure_eq_ret, Prog.bind_assoc, wp_deviceId]
  -- transfer 4, counter-clockwise
  iapply (wp_xsend M κ true 4 c 2 rfl (dev12_eq c) (pc_of (off6_eq c 1) _) (pc_of (off6_eq c 1) _) rfl rfl) $$ [Pt4 At4 HO St4]
  · isplitr; · iexact HR
    isplitr; · iexact Hot
    isplitl [Pt4]; · iexact Pt4
    isplitl [At4]; · iapply (Entails.of_eq (extra_use (F := F) false 2 4 c (by decide) rfl)); iexact At4
    isplitr; · iapply (Entails.of_eq (extra_none (F := F) true 4 (tgt true c) (by decide))); iempintro
    isplitl [HO]; · iexact HO
    iexact St4
  iintro ⟨Ct4, HO⟩
  iapply (wp_swait M κ false 4 c 2 (by decide) rfl) $$ [Cf4 HO Wf4]
  · isplitr; · iexact HR
    isplitr; · iexact Hlev
    isplitl [Cf4]; · iexact Cf4
    isplitl [HO]; · iexact HO
    iexact Wf4
  iintro ⟨HO, Wf4, Pf4⟩
  iapply (wp_rwait M κ false 4 c 2 (by decide) rfl) $$ [Kf4 HO Vf4]
  · isplitr; · iexact HR
    isplitr; · iexact Hlev
    isplitl [Kf4]; · iexact Kf4
    isplitl [HO]; · iexact HO
    iexact Vf4
  iintro ⟨HO, Vf4, Pf5, -⟩
  ihave Pf5 : At (F := F) (pcM false (ch false c 5)) c (val M false 5 c) $$ [Pf5]
  · iapply (Entails.of_eq (land_pc M false c 4 (by decide))); iexact Pf5
  iapply (wp_swait M κ true 4 c 2 (by decide) rfl) $$ [Ct4 HO Wt4]
  · isplitr; · iexact HR
    isplitr; · iexact Hlev
    isplitl [Ct4]; · iexact Ct4
    isplitl [HO]; · iexact HO
    iexact Wt4
  iintro ⟨HO, Wt4, Pt4⟩
  iapply (wp_rwait M κ true 4 c 2 (by decide) rfl) $$ [Kt4 HO Vt4]
  · isplitr; · iexact HR
    isplitr; · iexact Hlev
    isplitl [Kt4]; · iexact Kt4
    isplitl [HO]; · iexact HO
    iexact Vt4
  iintro ⟨HO, Vt4, Pt5, -⟩
  ihave Pt5 : At (F := F) (pcM true (ch true c 5)) c (val M true 5 c) $$ [Pt5]
  · iapply (Entails.of_eq (land_pc M true c 4 (by decide))); iexact Pt5
  simp only [k1_part13_eq_skeleton]; unfold k1_part13_skel
  simp only [Prog.lift, Prog.bind_op, Prog.bind_ret, Prog.pure_eq_ret, Prog.bind_assoc, wp_deviceId]
  -- transfer 5, clockwise
  iapply (wp_xsend M κ false 5 c 1 rfl (dev13_eq c) (pc_of (off5_eq c 2) _) (pc_of (off5_eq c 2) _) rfl rfl) $$ [Pf5 Af5 HO Sf5]
  · isplitr; · iexact HR
    isplitr; · iexact Hof
    isplitl [Pf5]; · iexact Pf5
    isplitl [Af5]; · iapply (Entails.of_eq (extra_use (F := F) true 3 5 c (by decide) rfl)); iexact Af5
    isplitr; · iapply (Entails.of_eq (extra_none (F := F) false 5 (tgt false c) (by decide))); iempintro
    isplitl [HO]; · iexact HO
    iexact Sf5
  iintro ⟨Cf5, HO⟩
  -- transfer 5, counter-clockwise
  iapply (wp_xsend M κ true 5 c 0 rfl (dev14_eq c) (pc_of (off6_eq c 2) _) (pc_of (off6_eq c 2) _) rfl rfl) $$ [Pt5 At5 HO St5]
  · isplitr; · iexact HR
    isplitr; · iexact Hot
    isplitl [Pt5]; · iexact Pt5
    isplitl [At5]; · iapply (Entails.of_eq (extra_use (F := F) false 3 5 c (by decide) rfl)); iexact At5
    isplitr; · iapply (Entails.of_eq (extra_none (F := F) true 5 (tgt true c) (by decide))); iempintro
    isplitl [HO]; · iexact HO
    iexact St5
  iintro ⟨Ct5, HO⟩
  iapply (wp_swait M κ false 5 c 0 (by decide) rfl) $$ [Cf5 HO Wf5]
  · isplitr; · iexact HR
    isplitr; · iexact Hlev
    isplitl [Cf5]; · iexact Cf5
    isplitl [HO]; · iexact HO
    iexact Wf5
  iintro ⟨HO, Wf5, Pf5⟩
  iapply (wp_rwait M κ false 5 c 0 (by decide) rfl) $$ [Kf5 HO Vf5]
  · isplitr; · iexact HR
    isplitr; · iexact Hlev
    isplitl [Kf5]; · iexact Kf5
    isplitl [HO]; · iexact HO
    iexact Vf5
  iintro ⟨HO, Vf5, Pf6, -⟩
  ihave Pf6 : At (F := F) (pcM false (ch false c 6)) c (val M false 6 c) $$ [Pf6]
  · iapply (Entails.of_eq (land_pc M false c 5 (by decide))); iexact Pf6
  iapply (wp_swait M κ true 5 c 0 (by decide) rfl) $$ [Ct5 HO Wt5]
  · isplitr; · iexact HR
    isplitr; · iexact Hlev
    isplitl [Ct5]; · iexact Ct5
    isplitl [HO]; · iexact HO
    iexact Wt5
  iintro ⟨HO, Wt5, Pt5⟩
  iapply (wp_rwait M κ true 5 c 0 (by decide) rfl) $$ [Kt5 HO Vt5]
  · isplitr; · iexact HR
    isplitr; · iexact Hlev
    isplitl [Kt5]; · iexact Kt5
    isplitl [HO]; · iexact HO
    iexact Vt5
  iintro ⟨HO, Vt5, Pt6, -⟩
  ihave Pt6 : At (F := F) (pcM true (ch true c 6)) c (val M true 6 c) $$ [Pt6]
  · iapply (Entails.of_eq (land_pc M true c 5 (by decide))); iexact Pt6
  -- close the cells; the chunks are the result
  rw [wp_ret]
  ihave Hd : (bigSep (Finset.univ : Finset (Bool × Fin 6)) fun p => doneR (F := F) p.1 p.2 c) $$ [Wf0 Vf0 Wt0 Vt0 Wf1 Vf1 Wt1 Vt1 Wf2 Vf2 Wt2 Vt2 Wf3 Vf3 Wt3 Vt3 Wf4 Vf4 Wt4 Vt4 Wf5 Vf5 Wt5 Vt5]
  · rw [twelve]; unfold doneR
    isplitl [Wf0 Vf0]
    · isplitl [Wf0]; · iexact Wf0
      iexact Vf0
    isplitl [Wt0 Vt0]
    · isplitl [Wt0]; · iexact Wt0
      iexact Vt0
    isplitl [Wf1 Vf1]
    · isplitl [Wf1]; · iexact Wf1
      iexact Vf1
    isplitl [Wt1 Vt1]
    · isplitl [Wt1]; · iexact Wt1
      iexact Vt1
    isplitl [Wf2 Vf2]
    · isplitl [Wf2]; · iexact Wf2
      iexact Vf2
    isplitl [Wt2 Vt2]
    · isplitl [Wt2]; · iexact Wt2
      iexact Vt2
    isplitl [Wf3 Vf3]
    · isplitl [Wf3]; · iexact Wf3
      iexact Vf3
    isplitl [Wt3 Vt3]
    · isplitl [Wt3]; · iexact Wt3
      iexact Vt3
    isplitl [Wf4 Vf4]
    · isplitl [Wf4]; · iexact Wf4
      iexact Vf4
    isplitl [Wt4 Vt4]
    · isplitl [Wt4]; · iexact Wt4
      iexact Vt4
    isplitl [Wf5 Vf5]
    · isplitl [Wf5]; · iexact Wf5
      iexact Vf5
    isplitl [Wt5]; · iexact Wt5
    iexact Vt5
  imod (close_all M κ c) $$ [Hd] with Hs0
  · isplitr; · iexact HR
    iexact Hd
  imod (close_bar M κ c) $$ [HatB] with Hb0
  · isplitr; · iexact HR
    iexact HatB
  imodintro
  iapply Hk
  unfold talkPost
  isplitl [Hb0]; · iexact Hb0
  isplitl [Hs0]; · iexact Hs0
  isplitl [Bf0 Bf1 Bf2]
  · iapply (comm_join (F := F) false c)
    isplitl [Bf0]; · iapply (At_Any (F := F) _ c _); iexact Bf0
    isplitl [Bf1]; · iapply (At_Any (F := F) _ c _); iexact Bf1
    iapply (At_Any (F := F) _ c _); iexact Bf2
  isplitl [Bt0 Bt1 Bt2]
  · iapply (comm_join (F := F) true c)
    isplitl [Bt0]; · iapply (At_Any (F := F) _ c _); iexact Bt0
    isplitl [Bt1]; · iapply (At_Any (F := F) _ c _); iexact Bt1
    iapply (At_Any (F := F) _ c _); iexact Bt2
  isplitl [Hx]; · iexact Hx
  isplitl [Hw]; · iexact Hw
  isplitl [Pf3 Pf4 Pf5 Pf6 Pt3 Pt4 Pt5 Pt6]
  · iapply (Entails.of_eq ((pieces_eq c (OUT M)).trans (eight' c _)).symm)
    isplitl [Pf3]; · iapply (Entails.of_eq (done_pc M false 3 (by decide) c)); iexact Pf3
    isplitl [Pf4]; · iapply (Entails.of_eq (done_pc M false 4 (by decide) c)); iexact Pf4
    isplitl [Pf5]; · iapply (Entails.of_eq (done_pc M false 5 (by decide) c)); iexact Pf5
    isplitl [Pf6]; · iapply (Entails.of_eq (done_pc M false 6 (by decide) c)); iexact Pf6
    isplitl [Pt3]; · iapply (Entails.of_eq (done_pc M true 3 (by decide) c)); iexact Pt3
    isplitl [Pt4]; · iapply (Entails.of_eq (done_pc M true 4 (by decide) c)); iexact Pt4
    isplitl [Pt5]; · iapply (Entails.of_eq (done_pc M true 5 (by decide) c)); iexact Pt5
    iapply (Entails.of_eq (done_pc M true 6 (by decide) c)); iexact Pt6
  unfold ow Rem
  iexact HO

end Cert.KernelIdeal.Ring
-- ==== Proof.Tokens.lean ====
/-
# `Tokens`: what the launch deals

Every cell's invariant is allocated at once; the transfers' cells, which no memory holds yet, are dormant until a device
enters the call. Each duty's token goes to the device that pays it, each credit to the device that waits for it.
-/
module

public import proofs.«01_k».proof.Proof.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (M : Dev nD → Vec F S2048x1024 .f32)

/-! ## Big conjunctions over cells -/

theorem two (Φ : Bool → sProp 𝕄) : bigSep Finset.univ Φ = iprop(Φ false ∗ Φ true) := by
  rw [bigSep_univ_eq_bigSepL [false, true] (by decide) (by decide)]
  simp only [bigSepL_cons_cons, bigSepL_singleton]
  rfl
/-- Over every cell: over the send cells and over the receive cells. -/
theorem keys (Φ : Key → sProp 𝕄) : bigSep Finset.univ Φ
    = iprop((bigSep (Finset.univ : Finset (Bool × Fin 6)) fun p => Φ (false, p)) ∗ bigSep (Finset.univ : Finset (Bool × Fin 6)) fun p => Φ (true, p)) := by
  rw [bigSep_univ_prod, two]
theorem dirs (Φ : Bool × Fin 6 → sProp 𝕄) : bigSep Finset.univ Φ
    = iprop((bigSep (Finset.univ : Finset (Fin 6)) fun k => Φ (false, k)) ∗ bigSep (Finset.univ : Finset (Fin 6)) fun k => Φ (true, k)) := by
  rw [bigSep_univ_prod, two]

/-! ## What a device holds of the protocol before the call -/

/-- The tokens of the two duties a transfer of device `c` pays. -/
def payR (d : Bool) (k : Fin 6) (c : Dev nD) : sProp 𝕄 :=
  iprop(dutyTok ER (xCell c (false, d, k)) 0 false ∗ dutyTok ER (xCell (tgt d c) (true, d, k)) 0 false)
def linear (c : Dev nD) : sProp 𝕄 :=
  iprop(atPos ER (barCell c) 0 ∅ 0 ∗ (bigSep (Finset.univ : Finset Key) fun x => openTok ER (xCell c x))
    ∗ dutyTok ER (barCell (tgt true c)) 0 false ∗ dutyTok ER (barCell (tgt false c)) 0 true
    ∗ (bigSep (Finset.univ : Finset (Bool × Fin 6)) fun p => payR (F := F) p.1 p.2 c))
def credR (c : Dev nD) : sProp 𝕄 :=
  iprop(cred (tallyAt (barCell c) () 2) ∗ (bigSep (Finset.univ : Finset (Bool × Fin 6)) fun p => cred (tallyAt (xCell c (true, p)) () N)))
def ghost (c : Dev nD) : sProp 𝕄 := iprop(∃ κ, records M κ ∗ linear (F := F) c)

def Tk (c : Dev nD) : sProp 𝕄 := iprop(ghost M c ∗ credR (F := F) c)
def Xk (c : Dev nD) : sProp 𝕄 := iprop(∃ κ, ringPre M κ c)

theorem open_one (κ : GSem nD τ sig → ℕ) (x : Key) (c : Dev nD) :
    iprop(records M κ ∗ openTok ER (xCell c x) ∗ semVal (xCell c x) 0)
      ⊢ (|={Set.univ}=> (atPos ER (xCell c x) 0 ∅ 0 ∗ reached ER (xCell c x) 0) : sProp 𝕄) := by
  iintro ⟨#HR, Ho, Hv⟩
  have h : iprop(cellInv ER (Rd M) (κ (xCell c x)) (xCell c x) ∗ openTok ER (xCell c x) ∗ semVal (xCell c x) 0)
      ⊢ (|={Set.univ}=> (atPos ER (xCell c x) 0 ∅ 0 ∗ reached ER (xCell c x) 0) : sProp 𝕄) :=
    Rounds.cell_open ER (Rd M) (Set.mem_univ _)
  iapply h
  isplitr; · iapply (inv_at M κ (x_mem c x)); iexact HR
  isplitl [Ho] <;> iassumption

/-- The transfers' cells of device `c`, opened from their counters. -/
theorem open_all (κ : GSem nD τ sig → ℕ) (c : Dev nD) :
    iprop(records M κ ∗ (bigSep (Finset.univ : Finset Key) fun x => openTok ER (xCell c x)) ∗ (bigSep (Finset.univ : Finset Key) fun x => semVal (xCell c x) 0))
      ⊢ (|={Set.univ}=> ((bigSep (Finset.univ : Finset Key) fun x => atPos ER (xCell c x) 0 ∅ 0) ∗ bigSep (Finset.univ : Finset Key) fun x => reached ER (xCell c x) 0) : sProp 𝕄) := by
  have h : iprop(records M κ ∗ bigSep (Finset.univ : Finset Key) fun x => iprop(openTok ER (xCell c x) ∗ semVal (xCell c x) 0))
      ⊢ bigSep (Finset.univ : Finset Key) fun x => (iprop(|={Set.univ}=> (atPos ER (xCell c x) 0 ∅ 0 ∗ reached ER (xCell c x) 0)) : sProp 𝕄) :=
    bigSep_with_persistent (R := records M κ) (fun x _ => open_one M κ x c)
  have h2 := h.trans (bigSep_fupd Finset.univ _)
  rw [bigSep_sep', bigSep_sep'] at h2
  exact h2

theorem split_reached (c : Dev nD) :
    (bigSep (Finset.univ : Finset Key) fun x => (reached ER (xCell c x) 0 : sProp 𝕄))
      ⊢ iprop((bigSep (Finset.univ : Finset (Bool × Fin 6)) fun p => reached ER (xCell c (false, p)) 0)
        ∗ (bigSep (Finset.univ : Finset (Fin 6)) fun k => reached ER (xCell c (true, false, k)) 0)
        ∗ (bigSep (Finset.univ : Finset (Fin 6)) fun k => reached ER (xCell c (true, true, k)) 0)) := by
  rw [keys, dirs (fun p => (reached ER (xCell c (true, p)) 0 : sProp 𝕄))]
theorem send_all (c : Dev nD) :
    iprop((bigSep (Finset.univ : Finset (Bool × Fin 6)) fun p => payR (F := F) p.1 p.2 c) ∗ (bigSep (Finset.univ : Finset (Bool × Fin 6)) fun p => reached ER (xCell c (false, p)) 0))
      ⊢ (bigSep (Finset.univ : Finset (Bool × Fin 6)) fun p => sendR (F := F) p.1 p.2 c : sProp 𝕄) := by
  have h (d : Bool) (k : Fin 6) : iprop(payR (F := F) d k c ∗ reached ER (xCell c (false, d, k)) 0) ⊢ (sendR (F := F) d k c : sProp 𝕄) := by
    unfold payR sendR
    iintro ⟨⟨H1, H2⟩, H3⟩
    isplitl [H1]; · iexact H1
    isplitl [H3] <;> iassumption
  rw [← bigSep_sep']
  exact bigSep_mono fun p _ => h p.1 p.2
theorem wait_all (c : Dev nD) :
    iprop((bigSep (Finset.univ : Finset Key) fun x => atPos ER (xCell c x) 0 ∅ 0) ∗ (bigSep (Finset.univ : Finset (Bool × Fin 6)) fun p => cred (tallyAt (xCell c (true, p)) () N)))
      ⊢ (bigSep (Finset.univ : Finset (Bool × Fin 6)) fun p => waitR (F := F) p.1 p.2 c : sProp 𝕄) := by
  have h (d : Bool) (k : Fin 6) : iprop((atPos ER (xCell c (false, d, k)) 0 ∅ 0 ∗ atPos ER (xCell c (true, d, k)) 0 ∅ 0)
      ∗ cred (tallyAt (xCell c (true, d, k)) () N)) ⊢ (waitR (F := F) d k c : sProp 𝕄) := by
    unfold waitR
    iintro ⟨⟨H1, H2⟩, H3⟩
    isplitl [H1]; · iexact H1
    isplitl [H2] <;> iassumption
  rw [keys, ← bigSep_sep', ← bigSep_sep']
  exact bigSep_mono fun p _ => h p.1 p.2

theorem ownSems_eq (c : Dev nD) : (Pipeline.ownSems0 osem c : sProp 𝕄) = bigSep (Finset.univ : Finset Key) fun x => semVal (xCell c x) 0 := rfl

theorem hopen (c : Dev nD) : iprop(Tk M c ∗ Pipeline.ownSems0 osem c ∗ levAts L lv) ⊢ (|={Set.univ}=> Xk M c : sProp 𝕄) := by
  rw [ownSems_eq]
  unfold Tk Xk ghost linear credR
  iintro ⟨⟨⟨%κ, #HR, Hat, Hop, HtB, HtB', Hpay⟩, HcB, HcV⟩, Hsem, #Hlev⟩
  imod (open_all M κ c) $$ [Hop Hsem] with ⟨HatX, HrX⟩
  · isplitr; · iexact HR
    isplitl [Hop] <;> iassumption
  ihave HrX' := (split_reached (F := F) c) $$ HrX
  icases HrX' with ⟨HrS, HrF, HrT⟩
  imodintro
  iexists κ
  unfold ringPre
  isplitr; · iexact HR
  isplitl [HrF]; · iexact HrF
  isplitl [HrT]; · iexact HrT
  isplitl [Hat]; · iexact Hat
  isplitl [HtB]; · iexact HtB
  isplitl [HtB']; · iexact HtB'
  isplitl [HcB]; · iexact HcB
  isplitl [Hpay HrS]
  · iapply (send_all (F := F) c)
    isplitl [Hpay] <;> iassumption
  isplitl [HatX HcV]
  · iapply (wait_all (F := F) c)
    isplitl [HatX] <;> iassumption
  iexact Hlev

/-! ## The launch element -/

def barToks : Finset (GSem nD τ sig × ℕ × Bool) :=
  (Finset.univ : Finset (Dev nD × Bool)).map ⟨fun x => (barCell x.1, 0, x.2), fun _ _ h =>
    Prod.ext (congrArg (fun t : GSem nD τ sig × ℕ × Bool => t.1.1.1) h) (congrArg (fun t : GSem nD τ sig × ℕ × Bool => t.2.2) h)⟩
def xToks : Finset (GSem nD τ sig × ℕ × Bool) :=
  (Finset.univ : Finset (Dev nD × Key)).map ⟨fun x => (xCell x.1 x.2, 0, false), fun _ _ h =>
    scEmb.injective (congrArg (fun t : GSem nD τ sig × ℕ × Bool => t.1) h)⟩
theorem toks_disj : Disjoint barToks xToks := by
  rw [Finset.disjoint_left]
  rintro g h₁ h₂
  obtain ⟨x, -, rfl⟩ := Finset.mem_map.mp h₁
  obtain ⟨y, -, h⟩ := Finset.mem_map.mp h₂
  exact osem_ne_bar y.2 (congrArg (fun t : GSem nD τ sig × ℕ × Bool => t.1.2) h)
/-- Every duty's token. -/
def talkToks : Finset (GSem nD τ sig × ℕ × Bool) := barToks ∪ xToks

theorem bigSep_two_sets {I : Type} [DecidableEq I] {s t : Finset I} (h : Disjoint s t) (Φ : I → sProp 𝕄) :
    bigSep (s ∪ t) Φ = iprop(bigSep s Φ ∗ bigSep t Φ) := BI.bigSep_union h

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The tokens by the device whose cell they are of, -/
theorem toks_eq : bigSep talkToks (fun x => (dutyTok ER x.1 x.2.1 x.2.2 : sProp 𝕄))
    = iprop(((bigSep Finset.univ fun c : Dev nD => dutyTok ER (barCell c) 0 false) ∗ bigSep Finset.univ fun c : Dev nD => dutyTok ER (barCell c) 0 true)
      ∗ bigSep (Finset.univ : Finset (Bool × Fin 6)) fun p => iprop((bigSep Finset.univ fun c : Dev nD => dutyTok ER (xCell c (false, p)) 0 false)
        ∗ bigSep Finset.univ fun c : Dev nD => dutyTok ER (xCell c (true, p)) 0 false)) := by
  unfold talkToks
  rw [bigSep_two_sets toks_disj]
  unfold barToks xToks
  rw [bigSep_map, bigSep_map, bigSep_univ_prod, bigSep_univ_prod, bigSep_sep']
  congr 1
  · rw [← bigSep_sep']
    exact bigSep_congr fun c _ => two _
  · rw [BI.bigSep_univ_comm, keys]; rfl
/-- and by the device that pays their duty. -/
theorem toks_around :
    bigSep talkToks (fun x => (dutyTok ER x.1 x.2.1 x.2.2 : sProp 𝕄))
      ⊢ bigSep Finset.univ fun c : Dev nD => iprop(dutyTok ER (barCell (tgt true c)) 0 false ∗ dutyTok ER (barCell (tgt false c)) 0 true
        ∗ (bigSep (Finset.univ : Finset (Bool × Fin 6)) fun p => payR (F := F) p.1 p.2 c)) := by
  have hr : (bigSep Finset.univ fun c : Dev nD => iprop(dutyTok ER (barCell (tgt true c)) 0 false ∗ dutyTok ER (barCell (tgt false c)) 0 true
        ∗ (bigSep (Finset.univ : Finset (Bool × Fin 6)) fun p => payR (F := F) p.1 p.2 c)))
      = (iprop((bigSep Finset.univ fun c : Dev nD => dutyTok ER (barCell c) 0 false) ∗ (bigSep Finset.univ fun c : Dev nD => dutyTok ER (barCell c) 0 true)
        ∗ (bigSep (Finset.univ : Finset (Bool × Fin 6)) fun p => bigSep Finset.univ fun c : Dev nD => payR (F := F) p.1 p.2 c)) : sProp 𝕄) := by
    rw [bigSep_sep', bigSep_sep', BI.bigSep_univ_comm,
      bigSep_univ_equiv (ring true) (fun c : Dev nD => (dutyTok ER (barCell c) 0 false : sProp 𝕄)),
      bigSep_univ_equiv (ring false) (fun c : Dev nD => (dutyTok ER (barCell c) 0 true : sProp 𝕄))]
    rfl
  rw [toks_eq, hr]
  iintro ⟨⟨H1, H2⟩, H3⟩
  isplitl [H1]; · iexact H1
  isplitl [H2]; · iexact H2
  have h : (bigSep (Finset.univ : Finset (Bool × Fin 6)) fun p => iprop((bigSep Finset.univ fun c : Dev nD => dutyTok ER (xCell c (false, p)) 0 false)
        ∗ bigSep Finset.univ fun c : Dev nD => dutyTok ER (xCell c (true, p)) 0 false))
      ⊢ (bigSep (Finset.univ : Finset (Bool × Fin 6)) fun p => bigSep Finset.univ fun c : Dev nD => payR (F := F) p.1 p.2 c : sProp 𝕄) :=
    bigSep_mono fun p _ => by
      unfold payR
      rw [bigSep_sep', bigSep_univ_equiv (ring p.1) (fun c : Dev nD => (dutyTok ER (xCell c (true, p)) 0 false : sProp 𝕄))]
      exact BI.Entails.refl _
  iapply h; iexact H3

/-! ## The launch credit -/

theorem bar_dev {c d : Dev nD} : barCell c = barCell d ↔ c = d := ⟨fun h => congrArg (fun g : GSem nD τ sig => g.1.1) h, congrArg _⟩
theorem x_dev {c d : Dev nD} {x y : Key} : xCell c x = xCell d y ↔ c = d ∧ x = y :=
  ⟨fun h => ⟨congrArg (fun g : GSem nD τ sig => g.1.1) h, osem_inj (congrArg Prod.snd h)⟩, fun h => by rw [h.1, h.2]⟩

theorem Rem_bar (d c : Dev nD) (n : ℕ) : Rem d n (barCell c) () = 0 := by
  refine Nat.eq_zero_of_not_pos fun h => ?_
  obtain ⟨i, -, he⟩ := Rem_pos h
  exact osem_ne_bar _ (congrArg Prod.snd he).symm
theorem Rem_sum (d : Dev nD) (g : GSem nD τ sig) (n : ℕ) : Rem d n g () = ∑ i ∈ Finset.range n, if g = dueCell d i then N else 0 := by
  induction n with
  | zero => rfl
  | succ n ih =>
    rw [Finset.sum_range_succ, ← ih]
    show (Rem d n + tallyAt (dueCell d n) () N) g () = _
    rw [Pi.add_apply, Finsupp.add_apply, tallyAt_apply]
    simp only [and_true]
theorem due_count : ∀ p : Bool × Fin 6, ((Finset.range 12).filter fun i => p = dueKey i).card = 1 := by decide
theorem Rem_x (d c : Dev nD) (p : Bool × Fin 6) : Rem d 12 (xCell c (true, p)) () = if tgt p.1 d = c then N else 0 := by
  rw [Rem_sum]
  have e : ∀ i, (xCell c (true, p) = dueCell d i) ↔ (p = dueKey i ∧ tgt p.1 d = c) := fun i => by
    unfold dueCell
    rw [x_dev]
    constructor
    · rintro ⟨h1, h2⟩
      have h3 : p = dueKey i := congrArg Prod.snd h2
      exact ⟨h3, by rw [h1, h3]⟩
    · rintro ⟨h1, h2⟩
      exact ⟨by rw [← h2, h1], by rw [h1]⟩
  rw [Finset.sum_congr rfl fun i _ => by rw [if_congr (e i) rfl rfl]]
  by_cases h : tgt p.1 d = c
  · simp only [h, and_true, if_true]
    rw [← Finset.sum_filter, Finset.sum_const, due_count, one_smul]
  · simp only [h, and_false, if_false, Finset.sum_const_zero]

theorem owed_bar (d c : Dev nD) : O₀ d (barCell c) () = (if c = tgt false d then 1 else 0) + (if c = tgt true d then 1 else 0) := by
  unfold O₀ O₁
  rw [Pi.add_apply, Pi.add_apply, Finsupp.add_apply, Finsupp.add_apply, tallyAt_apply, tallyAt_apply, Rem_bar, Nat.zero_add]
  simp only [and_true, bar_dev]
theorem owed_recv (d c : Dev nD) (p : Bool × Fin 6) : O₀ d (xCell c (true, p)) () = if tgt p.1 d = c then N else 0 := by
  unfold O₀ O₁
  rw [Pi.add_apply, Pi.add_apply, Finsupp.add_apply, Finsupp.add_apply, tallyAt_apply, tallyAt_apply, Rem_x]
  have h (e : Dev nD) : ¬(xCell c (true, p) = barCell e ∧ () = ()) := fun h => osem_ne_bar _ (congrArg Prod.snd h.1)
  rw [if_neg (h _), if_neg (h _), Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c : Dev nD) (p : Bool × Fin 6) :
    tallyOn (xCell c (true, p)) (launchCredit (Pipeline.owing O₀) 0 (xCell c (true, p))) = (tallyAt (xCell c (true, p)) () N : CellTallies nD τ sig Unit) := by
  unfold tallyAt; refine congrArg _ (Finsupp.ext fun u => ?_); cases u
  rw [Pipeline.launchCredit_owing, Finsupp.single_eq_same, Finset.sum_congr rfl fun d _ => owed_recv d c p,
    Finset.sum_congr rfl fun d _ => if_congr (show tgt p.1 d = c ↔ d = frm p.1 c from ⟨fun h => by rw [← h, frm_tgt], fun h => by rw [h, tgt_frm]⟩) rfl rfl,
    Finset.sum_ite_eq' Finset.univ (frm p.1 c) fun _ => N, if_pos (Finset.mem_univ _)]

def recvEmb : Bool × Fin 6 ↪ SemLoc sig := ⟨fun p => osem (true, p), fun _ _ h => congrArg Prod.snd (osem_inj h)⟩
theorem creds (c : Dev nD) : (Pipeline.launchCred O₀ c : sProp 𝕄) ⊢ credR (F := F) c := by
  unfold Pipeline.launchCred credR
  rw [bigSep_univ_at _ (SemLoc.reg barrier0), launch_bar]
  refine sep_mono_right ?_
  have hs : (Finset.univ : Finset (Bool × Fin 6)).map recvEmb ⊆ Finset.univ.erase (SemLoc.reg barrier0) := fun s hs => by
    obtain ⟨p, -, rfl⟩ := Finset.mem_map.mp hs
    exact Finset.mem_erase.mpr ⟨osem_ne_bar _, Finset.mem_univ _⟩
  refine (bigSep_subset hs).trans ?_
  rw [bigSep_map]
  exact Entails.of_eq (bigSep_congr fun p _ => congrArg cred (launch_recv c p))

end Cert.KernelIdeal.Ring

end
-- ==== Proof.Attn.lean ====
/-
# `Attn`: the attention call

Its body at a grid point: from the queries' block, the weights' block and the head's keys and values it leaves one
512 x 128 tile of the heads' results.
-/
module

public import proofs.«01_k».proof.Proof.Tokens
public import Idealize.ShloMosaic.Lib.Pipeline.FrameBody

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Loads and stores of a buffer held at what it reads -/

/-- A buffer held at contents that read `X`. -/
abbrev holds {s : Shape} (m : Memref sig .tc .vmem s .f32) (c : Dev nD) (X : Vec F s .f32) : sProp 𝕄 :=
  owns (Ix := Unit) (Name := ℕ) (U := UU) (Lvl := ℕ) (c : Thread nD τ) m fullShare X

theorem wp_hload {s : Shape} (m : Memref sig .tc .vmem s .f32) (c : Dev nD) (X : Vec F s .f32) (r : Rect s) {hl : m.view.LoadsAt r.toLoadRect}
    {α : Type} {Q : α → sProp 𝕄} {k : (r.shape.Idx → Elt F .f32) → Prog (TpuEff nD τ sig (Elt F) Λ₀ .tc) α} :
    holds m c X ⊢ iprop((holds m c X -∗ wp frame (wpE (defs₀ (F := F)) 𝒱₀ (c : Thread nD τ) none) Set.univ (k (View.ld X r)) Q)
      -∗ wp frame (wpE (defs₀ (F := F)) 𝒱₀ (c : Thread nD τ) none) Set.univ (.op (.load m r.toLoadRect hl) k) Q) := by
  unfold holds owns
  iintro ⟨%f, %hf, H⟩ Hk
  subst hf
  iapply (wp_load (m := m) (r := r.toLoadRect) (S := m.view.set) (f := f) 𝒱₀ (c : Thread nD τ) none Set.univ (View.setOn_subset_set _ _)) $$ [H]
  · iexact H
  iintro H
  iapply Hk
  iexists f; isplitr; · ipureintro; rfl
  iexact H

theorem wp_hstore {s : Shape} (m : Memref sig .tc .vmem s .f32) (c : Dev nD) (X w : Vec F s .f32) (off : Fin s.rank → ℕ) (hin : ∀ a, off a + s.size a ≤ s.size a)
    (h0 : ∀ a, off a = 0)
    {hx : (m.access (Rect.unit (s := s) off s.size hin)).Stores Finset.univ} {hm : (Finset.univ : Finset (Rect.unit (s := s) off s.size hin).shape.Idx) = Finset.univ ∨ ∀ a, (Rect.unit (s := s) off s.size hin).stride a = 1}
    {α : Type} {Q : α → sProp 𝕄} {k : PUnit → Prog (TpuEff nD τ sig (Elt F) Λ₀ .tc) α} :
    holds m c X ⊢ iprop((holds m c w -∗ wp frame (wpE (defs₀ (F := F)) 𝒱₀ (c : Thread nD τ) none) Set.univ (k ⟨⟩) Q)
      -∗ wp frame (wpE (defs₀ (F := F)) 𝒱₀ (c : Thread nD τ) none) Set.univ (.op (.store m (Rect.unit (s := s) off s.size hin) w Finset.univ hx hm) k) Q) := by
  unfold holds owns
  iintro ⟨%f, %hf, H⟩ Hk
  iapply (wp_store (m := m) (r := Rect.unit (s := s) off s.size hin) (w := w) (Mk := Finset.univ) (S := m.view.set) (f := f) 𝒱₀ (c : Thread nD τ) none Set.univ
    (((m.view.slice (Rect.unit (s := s) off s.size hin)).setOn_subset_set _).trans (m.view.set_slice_subset _))) $$ [H]
  · iexact H
  iintro H
  iapply Hk
  iexists ((m.access (Rect.unit (s := s) off s.size hin)).write (Elt F) f w Finset.univ); isplitr
  · ipureintro
    have h := View.read_write_univ (Val := Elt F) (v := m.access (Rect.unit (s := s) off s.size hin)) f w
    funext x
    have hx : (Rect.unit (s := s) off s.size hin).idx x = x := funext fun a => Fin.ext (by
      show off a + 1 * (x a).val = (x a).val; rw [h0 a]; omega)
    have := congrFun h x
    refine Eq.trans ?_ this
    show _ = m.view.read (Elt F) _ ((Rect.unit (s := s) off s.size hin).idx x)
    rw [hx]
  iexact H

theorem ld_full {s : Shape} (X : Vec F s .f32) (off : Fin s.rank → ℕ) (hin : ∀ a, off a + s.size a ≤ s.size a) (h0 : ∀ a, off a = 0) :
    (View.ld (Val := Elt F) (e' := .f32) X (Rect.unit (s := s) off s.size hin) : Vec F s .f32) = X :=
  funext fun x => congrArg X (funext fun a => Fin.ext (by
      show off a + 1 * (x a).val = (x a).val; rw [h0 a]; omega))

theorem zero2 : ∀ a : Fin 2, (![0, 0] : Fin 2 → ℕ) a = 0 := by decide
theorem zero3 : ∀ a : Fin 3, (![0, 0, 0] : Fin 3 → ℕ) a = 0 := by decide

/-! ## The body -/

theorem cond_iff : ∀ i : grid0.Coords, k0_cond1 i = 1#1 ↔ ¬ k0_cond2 i = 1#1 := by decide +kernel
theorem idle_out (i : grid0.Coords) : idle0 4 i = false := by
  revert i; decide +kernel

abbrev rg : Rect S1x2048x128 := Rect.unit (s := S1x2048x128) ![0, 0, 0] S1x128x128.size inb_S1x2048x128_S1x128x128_0_0_0
abbrev rb (i : grid0.Coords) (h : k0_cond2 i = 1#1) : Rect S1x2048x128 := Rect.unit (s := S1x2048x128) (k0_off1 i) S1x768x128.size (k0_off1_inb i h)

/-- The tile the body leaves at grid point `i`. -/
def attnOut (i : grid0.Coords) (x : Vec F S512x1024 .f32) (w : Vec F S1024x128 .f32) (k v : Vec F S1x2048x128 .f32) : Vec F S512x128 .f32 :=
  if h : k0_cond2 i = 1#1 then
    k0_pay3 (k0_pay4 (k0_pay1 x w) (View.ld (Val := Elt F) (e' := .f32) k rg))
      (k0_pay5 (BitVec.ofNat 32 (i 1).val) (k0_pay1 x w) (View.ld (Val := Elt F) (e' := .f32) k (rb i h)))
      (k0_pay6 (k0_pay1 x w) (View.ld (Val := Elt F) (e' := .f32) k rg))
      (k0_pay7 (BitVec.ofNat 32 (i 1).val) (k0_pay1 x w) (View.ld (Val := Elt F) (e' := .f32) k (rb i h)))
      (View.ld (Val := Elt F) (e' := .f32) v rg) (View.ld (Val := Elt F) (e' := .f32) v (rb i h))
  else k0_pay2 x w k v

theorem attn_run (c : Dev nD) (i : grid0.Coords) (m2 : Memref sig .tc .vmem S512x1024 .f32) (h2 : m2.IsWhole) (m3 : Memref sig .tc .vmem S1024x128 .f32) (h3 : m3.IsWhole)
    (m4 : Memref sig .tc .vmem S1x2048x128 .f32) (h4 : m4.IsWhole) (m5 : Memref sig .tc .vmem S1x2048x128 .f32) (h5 : m5.IsWhole) (m6 : Memref sig .tc .vmem S512x128 .f32) (h6 : m6.IsWhole)
    (x : Vec F S512x1024 .f32) (w : Vec F S1024x128 .f32) (k v : Vec F S1x2048x128 .f32) (d : Vec F S512x128 .f32) (Q : PUnit → sProp 𝕄) :
    iprop(holds m2 c x ∗ holds m3 c w ∗ holds m4 c k ∗ holds m5 c v ∗ holds m6 c d
        ∗ ((holds m2 c x ∗ holds m3 c w ∗ holds m4 c k ∗ holds m5 c v ∗ holds m6 c (attnOut i x w k v)) -∗ Q ⟨⟩))
      ⊢ wp frame (wpE (defs₀ (F := F)) 𝒱₀ (c : Thread nD τ) none) Set.univ (cc0__attn_body (F := F) i m2 h2 m3 h3 m4 h4 m5 h5 m6 h6) Q := by
  simp only [cc0__attn_body_eq_skeleton]; unfold cc0__attn_body_skel
  by_cases hc : k0_cond2 i = 1#1
  · have hn : ¬ k0_cond1 i = 1#1 := fun h => (cond_iff i).1 h hc
    simp only [dif_neg hn, dif_pos hc, k0_part1_eq_skeleton]; unfold k0_part1_skel
    simp only [Prog.lift, Prog.bind_op, Prog.bind_ret, Prog.pure_eq_ret, Prog.bind_assoc]
    unfold attnOut; rw [dif_pos hc]
    iintro ⟨H2, H3, H4, H5, H6, Hk⟩
    iapply (wp_hload m2 c x _) $$ [H2]; · iexact H2
    iintro H2
    iapply (wp_hload m3 c w _) $$ [H3]; · iexact H3
    iintro H3
    iapply (wp_hload m4 c k _) $$ [H4]; · iexact H4
    iintro H4
    iapply (wp_hload m4 c k _) $$ [H4]; · iexact H4
    iintro H4
    iapply (wp_hload m5 c v _) $$ [H5]; · iexact H5
    iintro H5
    iapply (wp_hload m5 c v _) $$ [H5]; · iexact H5
    iintro H5
    iapply (wp_hload m6 c d _) $$ [H6]; · iexact H6
    iintro H6
    iapply (wp_hstore m6 c d _ _ _ zero2) $$ [H6]; · iexact H6
    iintro H6
    rw [ld_full x _ _ zero2, ld_full w _ _ zero2]
    rw [wp_ret]
    imodintro
    iapply Hk
    isplitl [H2]; · iexact H2
    isplitl [H3]; · iexact H3
    isplitl [H4]; · iexact H4
    isplitl [H5]; · iexact H5
    iexact H6
  · have hn : k0_cond1 i = 1#1 := (cond_iff i).2 hc
    simp only [dif_neg hc, dif_pos hn]
    simp only [Prog.lift, Prog.bind_op, Prog.bind_ret, Prog.pure_eq_ret, Prog.bind_assoc]
    unfold attnOut; rw [dif_neg hc]
    iintro ⟨H2, H3, H4, H5, H6, Hk⟩
    iapply (wp_hload m2 c x _) $$ [H2]; · iexact H2
    iintro H2
    iapply (wp_hload m3 c w _) $$ [H3]; · iexact H3
    iintro H3
    iapply (wp_hload m4 c k _) $$ [H4]; · iexact H4
    iintro H4
    iapply (wp_hload m5 c v _) $$ [H5]; · iexact H5
    iintro H5
    iapply (wp_hload m6 c d _) $$ [H6]; · iexact H6
    iintro H6
    iapply (wp_hstore m6 c d _ _ _ zero2) $$ [H6]; · iexact H6
    iintro H6
    rw [ld_full x _ _ zero2, ld_full w _ _ zero2, ld_full k _ _ zero3, ld_full v _ _ zero3]
    rw [wp_ret]
    imodintro
    iapply Hk
    isplitl [H2]; · iexact H2
    isplitl [H3]; · iexact H3
    isplitl [H4]; · iexact H4
    isplitl [H5]; · iexact H5
    iexact H6

/-! ## The call's proof data -/

section
variable (V : Dev nD → Valuation τ sig (Elt F))

/-- Window `w`'s block at point `t`, of the array it reads. -/
abbrev bX (c : Dev nD) (t : Fin cfg0.N) : Vec F S512x1024 .f32 := ((cfg0.win 0).blk t).view.read (Elt F) (V c (Proc.devRef .tc main_v6))
abbrev bW (c : Dev nD) (t : Fin cfg0.N) : Vec F S1024x128 .f32 := ((cfg0.win 1).blk t).view.read (Elt F) (V c (Proc.devRef .tc main_arg1))
abbrev bK (c : Dev nD) (t : Fin cfg0.N) : Vec F S1x2048x128 .f32 := ((cfg0.win 2).blk t).view.read (Elt F) (V c (Proc.devRef .tc main_v12))
abbrev bV (c : Dev nD) (t : Fin cfg0.N) : Vec F S1x2048x128 .f32 := ((cfg0.win 3).blk t).view.read (Elt F) (V c (Proc.devRef .tc main_v18))
/-- The tile left at point `t`. -/
abbrev bO (c : Dev nD) (t : Fin cfg0.N) : Vec F S512x128 .f32 := attnOut (grid0.coords t) (bX V c t) (bW V c t) (bK V c t) (bV V c t)

def dat0 (c : Dev nD) : Dat τ (Elt F) Unit ℕ UU ℕ cfg0 c where
  A w := V c (Proc.devRef .tc (Pipeline.arrRef spec0 w))
  after w t := match w with
    | ⟨0, _⟩ => bX V c t
    | ⟨1, _⟩ => bW V c t
    | ⟨2, _⟩ => bK V c t
    | ⟨3, _⟩ => bV V c t
    | ⟨4, _⟩ => bO V c t
  Φ _ := Pipeline.scopedRest (Ix := Unit) (Name := ℕ) (U := UU) (Lvl := ℕ) (Val := Elt F) spec0 c
  q _ := fullShare
  owed _ := O₀ c

theorem before0_0 (c : Dev nD) (t : Fin cfg0.N) (d) : (dat0 V c).before 0 t d = bX V c t :=
  (dat0 V c).before_in_eq_fetched 0 rfl (fun _ => rfl) (fun _ _ _ => rfl) (fun _ => rfl) t d
theorem before0_1 (c : Dev nD) (t : Fin cfg0.N) (d) : (dat0 V c).before 1 t d = bW V c t :=
  (dat0 V c).before_in_eq_fetched 1 rfl (fun _ => rfl) (fun _ _ _ => rfl) (fun _ => rfl) t d
theorem before0_2 (c : Dev nD) (t : Fin cfg0.N) (d) : (dat0 V c).before 2 t d = bK V c t :=
  (dat0 V c).before_in_eq_fetched 2 rfl (fun _ => rfl) (fun _ _ _ => rfl) (fun _ => rfl) t d
theorem before0_3 (c : Dev nD) (t : Fin cfg0.N) (d) : (dat0 V c).before 3 t d = bV V c t :=
  (dat0 V c).before_in_eq_fetched 3 rfl (fun _ => rfl) (fun _ _ _ => rfl) (fun _ => rfl) t d

theorem phi_step (c : Dev nD) (t : Fin cfg0.N) : ((dat0 V c).Φ t.castSucc : sProp 𝕄) ⊢ (dat0 V c).Φ t.succ := BI.Entails.refl _
theorem owes_step (c : Dev nD) (t : Fin cfg0.N) : ((dat0 V c).owesAt () t.castSucc : sProp 𝕄) ⊢ (dat0 V c).owesAt () t.succ := by
  unfold Dat.owesAt Pipeline.owesWithin Dat.bound
  iintro ⟨%W, -, HO⟩; iexists W; isplitr; · ipureintro; exact fun _ _ => Or.inl trivial
  iexact HO

theorem attn_point (c : Dev nD) (t : Fin cfg0.N) :
    iprop((dat0 V c).Φ t.castSucc ∗ (dat0 V c).owesAt () t.castSucc
      ∗ (∃ d, holds (F := F) (st0_0 t) c ((dat0 V c).before 0 t d)) ∗ (∃ d, holds (F := F) (st0_1 t) c ((dat0 V c).before 1 t d))
      ∗ (∃ d, holds (F := F) (st0_2 t) c ((dat0 V c).before 2 t d)) ∗ (∃ d, holds (F := F) (st0_3 t) c ((dat0 V c).before 3 t d))
      ∗ (∃ d, holds (F := F) (st0_4 t) c ((dat0 V c).before 4 t d)))
    ⊢ wp frame (wpE (defs₀ (F := F)) 𝒱₀ (c : Thread nD τ) none) Set.univ (bodyAt0 (F := F) t) fun _ =>
      iprop((dat0 V c).Φ t.succ ∗ (dat0 V c).owesAt () t.succ
        ∗ holds (F := F) (st0_0 t) c (bX V c t) ∗ holds (F := F) (st0_1 t) c (bW V c t) ∗ holds (F := F) (st0_2 t) c (bK V c t)
        ∗ holds (F := F) (st0_3 t) c (bV V c t) ∗ holds (F := F) (st0_4 t) c (bO V c t)) := by
  simp only [before0_0, before0_1, before0_2, before0_3]
  iintro ⟨HP, HO, ⟨%d0, H0⟩, ⟨%d1, H1⟩, ⟨%d2, H2⟩, ⟨%d3, H3⟩, ⟨%d4, H4⟩⟩
  iapply (attn_run c (grid0.coords t) _ _ _ _ _ _ _ _ _ _ (bX V c t) (bW V c t) (bK V c t) (bV V c t) ((dat0 V c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HP]; · iapply (phi_step V c t); iexact HP
  isplitl [HO]; · iapply (owes_step V c t); iexact HO
  isplitl [H0]; · iexact H0
  isplitl [H1]; · iexact H1
  isplitl [H2]; · iexact H2
  isplitl [H3]; · iexact H3
  iexact H4

theorem attn_body (c : Dev nD) : BodyObligation (dat0 V c) (defs₀ (F := F)) 𝒱₀ () Set.univ := fun t => by
  rw [bigSep_W0, bigSep_W0]
  have h4 : cfg0.idle 4 (cfg0.grid.coords t) = false := idle_out _
  rw [h4]
  exact attn_point V c t

theorem attn_share (c : Dev nD) (w : Fin cfg0.W) : (dat0 V c).share w = fullShare := by unfold Dat.share; split <;> rfl
theorem attn_lv (w : Fin cfg0.W) (s : Fin (cfg0.win w).nbuf) : lvS (.dma ((cfg0.win w).sem s)) = 0 := by
  revert w s; decide

end

end Cert.KernelIdeal.Ring

end
-- ==== Proof.Calls.lean ====
/-
# `Calls`: the all-reduce's call

Its proof data and its body's obligation: every device ends with the sum of all devices' products in its result.
-/
module

public import proofs.«01_k».proof.Proof.Attn
public import Idealize.ShloMosaic.Lib.Pipeline.RegionArraysS
public import proofs.«01_k».proof.Proof.Gen.KernelIdeal.Regions

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : Dev nD → Valuation τ sig (Elt F))

/-! ## The call's proof data -/

abbrev entX (c : Dev nD) : Vec F S2048x1024 .f32 := V c (Proc.devRef .tc main_v19)
abbrev entW (c : Dev nD) : Vec F S1024x1024 .f32 := V c (Proc.devRef .tc main_arg4)
/-- Device `c`'s own product. -/
def Mv (c : Dev nD) : Vec F S2048x1024 .f32 := k1_pay1 (entX V c) (entW V c)
/-- The buffers after the call. -/
def V' (c : Dev nD) : Valuation τ sig (Elt F) := Function.update (V c) (Proc.devRef .tc main_v20) (OUT (Mv V))

abbrev anyB (c : Dev nD) (b : Ref sig .tc) : sProp 𝕄 := iprop(∃ f : Buf (Elt F) ((c : Thread nD τ).loc b), ((c : Thread nD τ).loc b) ↦{fullShare} f)
/-- The staging buffers of the attention call, at any contents. -/
def stg0Any (c : Dev nD) : sProp 𝕄 :=
  iprop(anyB (F := F) c cc0_stg0_0 ∗ anyB (F := F) c cc0_stg0_1 ∗ anyB (F := F) c cc0_stg1_0 ∗ anyB (F := F) c cc0_stg1_1 ∗ anyB (F := F) c cc0_stg2_0 ∗ anyB (F := F) c cc0_stg2_1 ∗ anyB (F := F) c cc0_stg3_0 ∗ anyB (F := F) c cc0_stg3_1 ∗ anyB (F := F) c cc0_stg4_0 ∗ anyB (F := F) c cc0_stg4_1)

def Φa (c : Dev nD) : sProp 𝕄 := iprop(Xk (Mv V) c ∗ commAny (F := F) false c ∗ commAny (F := F) true c ∗ stg0Any (F := F) c ∗ ∃ r, prngReg c r)
def Φb (c : Dev nD) : sProp 𝕄 :=
  iprop(semVal (barCell c) 0 ∗ (bigSep (Finset.univ : Finset Key) fun x => semVal (xCell c x) 0)
    ∗ commAny (F := F) false c ∗ commAny (F := F) true c ∗ stg0Any (F := F) c ∗ ∃ r, prngReg c r)

def dat1 (c : Dev nD) : Dat τ (Elt F) Unit ℕ UU ℕ cfg1 c where
  A w := V c (Proc.devRef .tc (Pipeline.arrRef spec1 w))
  after w _ := match w with
    | ⟨0, _⟩ => entX V c
    | ⟨1, _⟩ => entW V c
    | ⟨2, _⟩ => OUT (Mv V)
  Φ t := if t.val = 0 then Φa V c else Φb c
  q _ := fullShare
  owed t := if t.val = 0 then O₀ c else 0

theorem owed_first (c : Dev nD) : (dat1 V c).owed t1_0.castSucc = O₀ c := by
  show (if (t1_0.castSucc : Fin (cfg1.N + 1)).val = 0 then O₀ c else 0) = O₀ c; exact if_pos rfl
theorem owed_zero (c : Dev nD) : (dat1 V c).owed 0 = O₀ c := by
  show (if ((0 : Fin (cfg1.N + 1)).val = 0) then O₀ c else 0) = O₀ c; exact if_pos rfl
theorem owed_last (c : Dev nD) : (dat1 V c).owed (Fin.last _) = 0 := by
  show (if (Fin.last cfg1.N).val = 0 then O₀ c else 0) = 0
  rw [Fin.val_last, if_neg (by rw [show cfg1.N = 1 from N_1]; decide)]
theorem owed_succ (c : Dev nD) : (dat1 V c).owed t1_0.succ = 0 := by
  show (if (t1_0.succ : Fin (cfg1.N + 1)).val = 0 then O₀ c else 0) = 0; exact if_neg (Nat.succ_ne_zero _)

theorem whole_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem emb_0 (i : S2048x1024.Idx) : ((cfg1.win 0).blk t1_0).view.emb i = i :=
  funext fun a => Fin.ext (by show 0 * S2048x1024.size a + 1 * (i a).val = (i a).val; omega)
theorem emb_1 (i : S1024x1024.Idx) : ((cfg1.win 1).blk t1_0).view.emb i = i :=
  funext fun a => Fin.ext (by show 0 * S1024x1024.size a + 1 * (i a).val = (i a).val; omega)
theorem emb_2 (i : S2048x1024.Idx) : ((cfg1.win 2).blk t1_0).view.emb i = i :=
  funext fun a => Fin.ext (by show 0 * S2048x1024.size a + 1 * (i a).val = (i a).val; omega)
theorem before_0 (c : Dev nD) (d) : (dat1 V c).before 0 t1_0 d = entX V c := by
  unfold Dat.before; rw [if_pos (fetch1_0 t1_0)]
  exact funext fun i => congrArg (entX V c) (emb_0 i)
theorem before_1 (c : Dev nD) (d) : (dat1 V c).before 1 t1_0 d = entW V c := by
  unfold Dat.before; rw [if_pos (fetch1_1 t1_0)]
  exact funext fun i => congrArg (entW V c) (emb_1 i)
theorem arr_zero (c : Dev nD) (w : Fin cfg1.W) : (dat1 V c).arrAt w 0 = V c (Proc.devRef .tc (Pipeline.arrRef spec1 w)) := rfl
theorem arr_out (c : Dev nD) : (dat1 V c).arrAt 2 cfg1.N = OUT (Mv V) :=
  (dat1 V c).arrAt_eq_of_cover 2 (OUT (Mv V))
    (fun t _ => by rw [fin_N1 t]; exact funext fun i => (congrArg (OUT (Mv V)) (emb_2 i)).symm)
    (fun i => ⟨t1_0, flush1_2 t1_0, by
      have h := ((cfg1.win 2).blk t1_0).view.emb_mem_set i
      rwa [emb_2 i] at h⟩)
theorem V'_out (c : Dev nD) : V' V c (Proc.devRef .tc main_v20) = OUT (Mv V) := Function.update_self ..
theorem V'_ne (c : Dev nD) {b : DevRef τ sig} (h : b ≠ Proc.devRef .tc main_v20) : V' V c b = V c b := Function.update_of_ne h ..
theorem arr_last (c : Dev nD) (w : Fin cfg1.W) : (dat1 V c).arrAt w cfg1.N = V' V c (Proc.devRef .tc (Pipeline.arrRef spec1 w)) := by
  match w with
  | ⟨0, _⟩ => exact ((dat1 V c).arrAt_in 0 rfl _).trans (V'_ne V c (b := Proc.devRef .tc main_v19) (by decide)).symm
  | ⟨1, _⟩ => exact ((dat1 V c).arrAt_in 1 rfl _).trans (V'_ne V c (b := Proc.devRef .tc main_arg4) (by decide)).symm
  | ⟨2, _⟩ => exact (arr_out V c).trans (V'_out V c).symm

/-! ## The body's obligation -/

abbrev stgPt (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φa V c ∗ (dat1 V c).owesAt () t1_0.castSucc
    ∗ (∃ d, stgPt c cc1_stg0_0 ((dat1 V c).before 0 t1_0 d)) ∗ (∃ d, stgPt c cc1_stg1_0 ((dat1 V c).before 1 t1_0 d))
    ∗ (∃ d, stgPt c cc1_stg2_0 ((dat1 V c).before 2 t1_0 d)))
def bodyPost (c : Dev nD) : sProp 𝕄 :=
  iprop(Φb (F := F) c ∗ (dat1 V c).owesAt () t1_0.succ
    ∗ stgPt c cc1_stg0_0 (entX V c) ∗ stgPt c cc1_stg1_0 (entW V c) ∗ stgPt c cc1_stg2_0 (OUT (Mv V)))

theorem owesAt_in (c : Dev nD) (W : Waits sig Unit) :
    (owes (c : Thread nD τ) (0 : CellTallies nD τ sig Unit) W : sProp 𝕄) ⊢ (dat1 V c).owesAt () t1_0.succ := by
  unfold Dat.owesAt Pipeline.owesWithin Dat.bound; rw [owed_succ]
  iintro HO; iexists W; isplitr; · ipureintro; exact fun _ _ => Or.inl trivial
  iexact HO
theorem owesAt_out (c : Dev nD) :
    ((dat1 V c).owesAt () t1_0.castSucc : sProp 𝕄) ⊢ iprop(∃ W, owes (c : Thread nD τ) (O₀ c) W) := by
  unfold Dat.owesAt Pipeline.owesWithin; rw [owed_first]
  iintro ⟨%W, -, HO⟩; iexists W; iexact HO

theorem stg_0 (c : Dev nD) : iprop(∃ d, stgPt c cc1_stg0_0 ((dat1 V c).before 0 t1_0 d)) ⊢ (xM.view.loc (c : Thread nD τ) ↦{fullShare} entX V c : sProp 𝕄) := by
  iintro ⟨%d, %f, %hf, H⟩
  have e : f = entX V c := hf.trans (before_0 V c d)
  subst e; iexact H
theorem stg_1 (c : Dev nD) : iprop(∃ d, stgPt c cc1_stg1_0 ((dat1 V c).before 1 t1_0 d)) ⊢ (wM.view.loc (c : Thread nD τ) ↦{fullShare} entW V c : sProp 𝕄) := by
  iintro ⟨%d, %f, %hf, H⟩
  have e : f = entW V c := hf.trans (before_1 V c d)
  subst e; iexact H
theorem stg_2 (c : Dev nD) : iprop(∃ d, stgPt c cc1_stg2_0 ((dat1 V c).before 2 t1_0 d))
    ⊢ (iprop(∃ f : Buf (Elt F) (oM.view.loc (c : Thread nD τ)), oM.view.loc (c : Thread nD τ) ↦{fullShare} f) : sProp 𝕄) := by
  iintro ⟨%d, %f, -, H⟩
  iexists f; iexact H
theorem stg_put (c : Dev nD) (b : Ref sig .tc) (X : b.ty.Contents (Elt F)) : (((c : Thread nD τ).loc b) ↦{fullShare} X : sProp 𝕄) ⊢ stgPt c b X := by
  iintro H; iexists X; isplitr; · ipureintro; rfl
  iexact H

theorem body_run [∀ e, Nonempty (Elt F e)] (c : Dev nD) : bodyPre V c ⊢ wp frame (wpE (defs₀ (F := F)) 𝒱₀ c none) Set.univ (prog (F := F)) (fun _ => bodyPost V c) := by
  unfold bodyPre Φa Xk
  iintro ⟨⟨⟨%κ, Hr⟩, Hf, Ht, Hp⟩, Ho, H0, H1, H2⟩
  ihave Ho' := (owesAt_out V c) $$ Ho
  icases Ho' with ⟨%W, Ho⟩
  ihave H0' := (stg_0 V c) $$ H0
  ihave H1' := (stg_1 V c) $$ H1
  ihave H2' := (stg_2 V c) $$ H2
  iapply (talkRun (Mv V) (entX V c) (entW V c) κ c rfl W _)
  isplitl [Hr Hf Ht Ho H0' H1' H2']
  · unfold talkPre
    isplitl [Hr]; · iexact Hr
    isplitl [Hf]; · iexact Hf
    isplitl [Ht]; · iexact Ht
    isplitl [H0']; · iexact H0'
    isplitl [H1']; · iexact H1'
    isplitl [H2']; · iexact H2'
    iexact Ho
  unfold talkPost bodyPost Φb
  iintro ⟨Hb, Hx, Hf, Ht, H0, H1, H2, ⟨%W', Ho⟩⟩
  isplitl [Hb Hx Hf Ht Hp]
  · isplitl [Hb]; · iexact Hb
    isplitl [Hx]; · iexact Hx
    isplitl [Hf]; · iexact Hf
    isplitl [Ht]; · iexact Ht
    iexact Hp
  isplitl [Ho]; · iapply (owesAt_in V c W'); iexact Ho
  isplitl [H0]; · iapply (stg_put c cc1_stg0_0 (entX V c)); iexact H0
  isplitl [H1]; · iapply (stg_put c cc1_stg1_0 (entW V c)); iexact H1
  iapply (stg_put c cc1_stg2_0 (OUT (Mv V))); iexact H2

theorem body [∀ e, Nonempty (Elt F e)] (c : Dev nD) : BodyObligation (dat1 V c) (defs₀ (F := F)) 𝒱₀ () Set.univ := fun t => by
  rw [fin_N1 t]
  rw [bigSep_W1, bigSep_W1]
  simp only [whole_owns]
  exact body_run V c

/-! ## The region -/

theorem kit : Pipeline.PLaunchFacts (nD := nD) (τ := τ) (pcfgs (F := F)) 1 := launch1.toP
theorem own_sems : Pipeline.OwnSemFacts spec1 osem := by decide
theorem share_eq (c : Dev nD) (w : Fin cfg1.W) : (dat1 V c).share w = fullShare := by unfold Dat.share; split <;> rfl

theorem cut (c : Dev nD) (t : Fin (cfg1.N + 1)) (g : GSem nD τ sig) (i : Unit) (h : 0 < (dat1 V c).owed t g i) : i ∈ L g ∧ (0 : ℕ) < lv g i := by
  have e : (dat1 V c).owed t = if t.val = 0 then O₀ c else 0 := rfl
  rw [e] at h
  split at h
  · obtain ⟨h1, h2⟩ := O₀_lv h
    exact ⟨by unfold L; rw [if_pos h1]; exact Finset.mem_singleton_self _, h2⟩
  · exact absurd h (Nat.lt_irrefl 0)
theorem lv_stg (w : Fin cfg1.W) (s : Fin (cfg1.win w).nbuf) : lvS (.dma ((cfg1.win w).sem s)) = 0 := by
  revert w s; decide

/-- The unscoped buffers that are no array of the call. -/
abbrev rest : Finset (DevRef τ sig) := Pipeline.ucRefs τ sig \ Pipeline.arrRefs (τ := τ) spec1

theorem arr_mem (w : Fin 3) : (Proc.devRef .tc (Pipeline.arrRef spec1 w) : DevRef τ sig) ∈ Pipeline.arrRefs (τ := τ) spec1 :=
  Finset.mem_map_of_mem _ (Finset.mem_image_of_mem _ (Finset.mem_univ w))

theorem rest_same (c : Dev nD) (b : DevRef τ sig) (hb : b ∈ rest \ ∅) : V' V c b = V c b := by
  refine V'_ne V c fun h => ?_
  rw [Finset.sdiff_empty] at hb
  exact (Finset.mem_sdiff.mp hb).2 (h ▸ arr_mem 2)

theorem region_in (c : Dev nD) : iprop(Pipeline.scopedRest (Ix := Unit) (Name := ℕ) (U := UU) (Lvl := ℕ) (Val := Elt F) spec1 c ∗ (∃ r, prngReg c r)
      ∗ StableHlo.held (c : Thread nD τ) (∅ : Finset (DevRef τ sig)) (V c) ∗ Xk (Mv V) c) ⊢ Φa V c := by
  rw [scopedRest1_eq]
  unfold Φa commAny stg0Any anyB
  iintro ⟨⟨A0, A1, A2, A3, A4, A5, A6, A7, A8, A9, H0, H1⟩, Hp, -, HX⟩
  isplitl [HX]; · iexact HX
  isplitl [H0]; · iexact H0
  isplitl [H1]; · iexact H1
  isplitr [Hp]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hp
theorem region_out (c : Dev nD) : Φb (F := F) c ⊢ iprop(Pipeline.scopedRest (Ix := Unit) (Name := ℕ) (U := UU) (Lvl := ℕ) (Val := Elt F) spec1 c ∗ (∃ r, prngReg c r)
      ∗ StableHlo.held (c : Thread nD τ) (∅ : Finset (DevRef τ sig)) (V' V c) ∗ Pipeline.ownSems0 osem c ∗ semVal (barCell c) 0) := by
  rw [scopedRest1_eq, ownSems_eq]
  unfold Φb commAny stg0Any anyB
  iintro ⟨Hb, Hx, H0, H1, ⟨A0, A1, A2, A3, A4, A5, A6, A7, A8, A9⟩, Hp⟩
  isplitl [H0 H1 A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [H0]; · iexact H0
    iexact H1
  isplitl [Hp]; · iexact Hp
  isplitr
  · have h : (BI.emp : sProp 𝕄) ⊢ StableHlo.held (c : Thread nD τ) (∅ : Finset (DevRef τ sig)) (V' V c) := by
      unfold StableHlo.held; rw [BI.bigSep_empty]
    iapply h; iempintro
  isplitl [Hx] <;> iassumption

end Cert.KernelIdeal.Ring

end
-- ==== Proof.Launch.lean ====
/-
# `Launch`: the run of the program

The two calls as regions, between them and around them the host operations, and the run of the whole program: what every
buffer holds at the end, every counter at zero.
-/
module

public import proofs.«01_k».proof.Proof.Calls
public import Idealize.ShloMosaic.Lib.Pipeline.RegionArraysS
public import proofs.«01_k».proof.Proof.Gen.KernelIdeal.Regions

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : Dev nD → Valuation τ sig (Elt F))

/-! ## The two regions -/

/-- The buffers after the attention call. -/
def Vb (c : Dev nD) : Valuation τ sig (Elt F) := Pipeline.afterRegion (dat0 V c) (V c)
/-- The buffers after the all-reduce. -/
abbrev Vc (c : Dev nD) : Valuation τ sig (Elt F) := V' (Vb V) c

def pdats : (p : Fin 2) → (c : Dev nD) → Dat τ (Elt F) Unit ℕ UU ℕ (cfgs p) c
  | 0 => dat0 V
  | 1 => dat1 (Vb V)

theorem kit0 : Pipeline.PLaunchFacts (nD := nD) (τ := τ) (pcfgs (F := F)) 0 := launch0.toP

theorem attn_in (c : Dev nD) : iprop(Pipeline.scopedRest (Ix := Unit) (Name := ℕ) (U := UU) (Lvl := ℕ) (Val := Elt F) spec0 c ∗ emp) ⊢ (dat0 V c).Φ 0 := by
  show _ ⊢ Pipeline.scopedRest (Ix := Unit) (Name := ℕ) (U := UU) (Lvl := ℕ) (Val := Elt F) spec0 c
  iintro ⟨H, -⟩; iexact H
theorem attn_out (c : Dev nD) : (dat0 V c).Φ (Fin.last cfg0.N) ⊢ iprop(Pipeline.scopedRest (Ix := Unit) (Name := ℕ) (U := UU) (Lvl := ℕ) (Val := Elt F) spec0 c ∗ emp) := by
  show Pipeline.scopedRest (Ix := Unit) (Name := ℕ) (U := UU) (Lvl := ℕ) (Val := Elt F) spec0 c ⊢ _
  iintro H
  isplitl [H]; · iexact H
  iempintro

set_option backward.isDefEq.respectTransparency.types false in
def reg0 [∀ e, Nonempty (Elt F e)] : Pipeline.RegionSeg (pcfgs (F := F)) adm (pdats V) () defs₀ 𝒱₀ L lv 0 :=
  Pipeline.RegionSeg.ofHeldIn (pcfgs (F := F)) adm (pdats V) () defs₀ 𝒱₀ L lv 0 O₀ (Pipeline.ucRefs τ sig) (fun _ => iprop(emp)) (fun _ => iprop(emp)) kit0 rfl
    (fun c => (attn_body V c).loose) (fun _ _ => rfl) (fun _ => rfl) (attn_share V)
    (attn_in V) (attn_out V)
    (fun _ => 0)
    ⟨fun _ _ _ => Finset.mem_singleton_self _, fun _ w s => Nat.le_of_eq (attn_lv w s), fun c g i h => by
      obtain ⟨h1, h2⟩ := O₀_lv h
      exact ⟨by unfold L; rw [if_pos h1]; exact Finset.mem_singleton_self _, h2⟩⟩
    (fun c => iprop((∃ r, prngReg c r) ∗ Tk (Mv (Vb V)) c))
    V (fun _ _ => rfl)

set_option backward.isDefEq.respectTransparency.types false in
def reg1 [∀ e, Nonempty (Elt F e)] : Pipeline.RegionSeg (pcfgs (F := F)) adm (pdats V) () defs₀ 𝒱₀ L lv 1 :=
  Pipeline.RegionSeg.ofTalk (pcfgs (F := F)) adm (pdats V) () defs₀ 𝒱₀ L lv 1 osem own_sems
    ∅ rest (Finset.empty_subset _) kit rfl (fun c => (body (Vb V) c).loose)
    (fun _ => 0) O₀ (fun c => (owed_zero (Vb V) c).trans (zero_add _).symm) (owed_last (Vb V)) (fun _ => rfl) (share_eq (Vb V))
    (Vb V) (Vc V) (rest_same (Vb V))
    (Tk (Mv (Vb V))) (fun c => semVal (barCell c) 0) (Xk (Mv (Vb V))) (fun c => semVal (barCell c) 0) (hopen (Mv (Vb V))) (region_in (Vb V)) (region_out (Vb V))
    (fun c => by iintro H; imodintro; iexact H)
    (fun _ => 0)
    ⟨fun _ _ _ => Finset.mem_singleton_self _, fun _ w s => Nat.le_of_eq (lv_stg w s), fun c t g i h => cut (Vb V) c t g i h⟩
    (fun _ => iprop(emp))
    (arr_zero (Vb V)) (arr_last (Vb V))

/-- What rides along until the all-reduce. -/
abbrev Eb (c : Dev nD) : sProp 𝕄 := iprop((∃ r, prngReg c r) ∗ Tk (Mv (Vb V)) c ∗ ∃ W, owes (c : Thread nD τ) (O₀ c) W)
/-- And after it. -/
abbrev Ea (c : Dev nD) : sProp 𝕄 := iprop(semVal (barCell c) 0 ∗ ∃ W, owes (c : Thread nD τ) (0 : CellTallies nD τ sig Unit) W)

theorem held_split (c : Dev nD) (W : Valuation τ sig (Elt F)) : (StableHlo.held (c : Thread nD τ) (Pipeline.ucRefs τ sig) W : sProp 𝕄)
    = iprop(StableHlo.held (c : Thread nD τ) (Pipeline.arrRefs (τ := τ) spec1) W ∗ StableHlo.held (c : Thread nD τ) rest W) :=
  StableHlo.held_sub_split (c : Thread nD τ) (Pipeline.arrRefs_sub_ucRefs spec1 (by decide)) W

theorem reg0_pre [∀ e, Nonempty (Elt F e)] (c : Dev nD) : iprop(StableHlo.held (c : Thread nD τ) (Pipeline.ucRefs τ sig) (V c) ∗ Eb V c) ⊢ (reg0 V).pre c := by
  show _ ⊢ iprop(StableHlo.held (c : Thread nD τ) (Pipeline.arrRefs (τ := τ) spec0) (V c) ∗ emp
    ∗ (StableHlo.held (c : Thread nD τ) (Pipeline.ucRefs τ sig \ Pipeline.arrRefs (τ := τ) spec0) (V c) ∗ ((∃ r, prngReg c r) ∗ Tk (Mv (Vb V)) c))
    ∗ ∃ Wd, owes (c : Thread nD τ) (O₀ c) Wd)
  unfold Eb
  rw [StableHlo.held_sub_split (c : Thread nD τ) (Pipeline.arrRefs_sub_ucRefs (τ := τ) spec0 (by decide)) (V c)]
  iintro ⟨⟨Ha, Hu⟩, Hp, HT, HO⟩
  isplitl [Ha]; · iexact Ha
  isplitr; · iempintro
  isplitl [Hu Hp HT]
  · isplitl [Hu]; · iexact Hu
    isplitl [Hp]; · iexact Hp
    iexact HT
  iexact HO
theorem reg0_post [∀ e, Nonempty (Elt F e)] (c : Dev nD) : (reg0 V).post c ⊢ iprop(StableHlo.held (c : Thread nD τ) (Pipeline.ucRefs τ sig) (Vb V c) ∗ Eb V c) := by
  show iprop(StableHlo.held (c : Thread nD τ) (Pipeline.arrRefs (τ := τ) spec0) (Vb V c) ∗ emp
    ∗ (StableHlo.held (c : Thread nD τ) (Pipeline.ucRefs τ sig \ Pipeline.arrRefs (τ := τ) spec0) (V c) ∗ ((∃ r, prngReg c r) ∗ Tk (Mv (Vb V)) c))
    ∗ ∃ Wd, owes (c : Thread nD τ) (O₀ c) Wd) ⊢ _
  unfold Eb
  rw [StableHlo.held_sub_split (c : Thread nD τ) (Pipeline.arrRefs_sub_ucRefs (τ := τ) spec0 (by decide)) (Vb V c),
    StableHlo.held_congr (c : Thread nD τ) (S := Pipeline.ucRefs τ sig \ Pipeline.arrRefs (τ := τ) spec0) (V := Vb V c) (V' := V c)
      (Pipeline.afterRegion_off (dat0 V c) (V c) (Pipeline.ucRefs τ sig))]
  iintro ⟨Ha, -, ⟨Hu, Hp, HT⟩, HO⟩
  isplitl [Ha Hu]
  · isplitl [Ha]; · iexact Ha
    iexact Hu
  isplitl [Hp]; · iexact Hp
  isplitl [HT]; · iexact HT
  iexact HO

theorem reg1_pre [∀ e, Nonempty (Elt F e)] (c : Dev nD) : iprop(StableHlo.held (c : Thread nD τ) (Pipeline.ucRefs τ sig) (Vb V c) ∗ Eb V c) ⊢ (reg1 V).pre c := by
  show _ ⊢ iprop(StableHlo.held (c : Thread nD τ) (Pipeline.arrRefs (τ := τ) spec1) (Vb V c) ∗ (∃ r, prngReg c r)
    ∗ (StableHlo.held (c : Thread nD τ) rest (Vb V c) ∗ emp) ∗ Tk (Mv (Vb V)) c ∗ ∃ Wd, owes (c : Thread nD τ) (0 + O₀ c) Wd)
  unfold Eb
  rw [zero_add, held_split]
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption
theorem reg1_post [∀ e, Nonempty (Elt F e)] (c : Dev nD) : (reg1 V).post c ⊢ iprop(StableHlo.held (c : Thread nD τ) (Pipeline.ucRefs τ sig) (Vc V c) ∗ Ea (F := F) c) := by
  show iprop(StableHlo.held (c : Thread nD τ) (Pipeline.arrRefs (τ := τ) spec1) (Vc V c) ∗ (∃ r, prngReg c r)
    ∗ (StableHlo.held (c : Thread nD τ) rest (Vc V c) ∗ emp) ∗ semVal (barCell c) 0 ∗ ∃ Wd, owes (c : Thread nD τ) (0 : CellTallies nD τ sig Unit) Wd) ⊢ _
  unfold Ea
  rw [held_split]
  iintro ⟨Ha, -, ⟨Hr, -⟩, Hb, HO⟩
  isplitl [Ha Hr]
  · isplitl [Ha] <;> iassumption
  isplitl [Hb]; · iexact Hb
  iexact HO

/-! ## The launch -/

def u₀ : UU :=
  (initOf (Pipeline.cells (Pipeline.pin (pcfgs (F := F)) adm) cellOf_inj) (Pipeline.launchToks (Pipeline.pin (pcfgs (F := F)) adm) cellOf_inj),
    launchOf barCells scCells talkToks)

/-- A resource kept on device 0 until it is dealt. -/
def at0 (X : sProp 𝕄) (c : Dev nD) : sProp 𝕄 := if c = 0 then X else iprop(emp)
theorem bigSep_at0 (X : sProp 𝕄) : bigSep Finset.univ (at0 X) = X := by
  rw [bigSep_univ_at _ (0 : Dev nD), bigSep_congr (s := Finset.univ.erase (0 : Dev nD)) (Ψ := fun _ => (BI.emp : sProp 𝕄))
      fun c hc => by unfold at0; rw [if_neg (Finset.ne_of_mem_erase hc)]; rfl, BI.bigSep_emp_const]
  unfold at0; rw [if_pos rfl]
  exact BI.equiv_iff.mp sep_emp
def G : Dev nD → sProp 𝕄 := at0 (BI.own (ER (launchOf barCells scCells talkToks)))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]
theorem unscoped_eq : ∀ sm : SemLoc sig, sm.isScoped .tc = false → sm = .reg barrier0 := by decide

/-- Before the first host stretch. -/
abbrev T₀ (m : (ℓ : Loc nD τ sig) → Buf (Elt F) ℓ) (c : Dev nD) : sProp 𝕄 := iprop(StableHlo.held (c : Thread nD τ) (Pipeline.ucRefs τ sig) (V0 m c) ∗ Eb (V1 m) c)

variable (m : (ℓ : Loc nD τ sig) → Buf (Elt F) ℓ)

def bundle (c : Dev nD) : sProp 𝕄 :=
  iprop(StableHlo.held (c : Thread nD τ) (Pipeline.ucRefs τ sig) (V0 m c) ∗ credR (F := F) c ∗ owes (c : Thread nD τ) (O₀ c) ∅ ∗ ∃ r, prngReg c r)

theorem T₀_of (κ : GSem nD τ sig → ℕ) (c : Dev nD) : iprop(records (Mv (Vb (V1 m))) κ ∗ linear (F := F) c ∗ bundle m c) ⊢ T₀ m c := by
  unfold bundle T₀ Eb Tk ghost
  iintro ⟨#HR, Hl, Hh, Hc, HO, Hp⟩
  isplitl [Hh]; · iexact Hh
  isplitl [Hp]; · iexact Hp
  isplitr [HO]
  · isplitl [Hl]
    · iexists κ
      isplitr; · iexact HR
      iexact Hl
    iexact Hc
  iexists ∅; iexact HO

variable (ρ : Dev nD → PrngReg)

theorem deal (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(bundle m c ∗ (semVal (barCell c) 0 ∗ G (F := F) c)) : sProp 𝕄) := by
  rw [show (unscopedBufs c (fun b => m ((c : Thread nD τ).loc b)) : sProp 𝕄) = StableHlo.held (c : Thread nD τ) (Pipeline.ucRefs τ sig) (V0 m c) from Pipeline.unscopedBufs_held c (V0 m c), unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hd : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (iprop((bigSep Finset.univ fun c : Dev nD => bundle m c) ∗ (bigSep Finset.univ fun c : Dev nD => semVal (barCell c) 0) ∗ bigSep Finset.univ (G (F := F))) : sProp 𝕄) := by
    rw [← bigSep_sep', ← bigSep_sep']
    exact bigSep_mono fun c _ => deal m ρ c
  have hg : bigSep Finset.univ (G (F := F)) ⊢ (BI.own (ER (launchOf barCells scCells talkToks)) : sProp 𝕄) :=
    Entails.of_eq (bigSep_at0 (F := F) (BI.own (ER (launchOf barCells scCells talkToks))))
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep (Finset.univ : Finset Key) fun x => (openTok ER (xCell c x) : sProp 𝕄)) :=
    Entails.of_eq (by rw [bigSep_map, bigSep_univ_prod]; rfl)
  have hlin : iprop((bigSep Finset.univ fun c : Dev nD => (atPos ER (barCell c) 0 ∅ 0 : sProp 𝕄))
      ∗ (bigSep Finset.univ fun c : Dev nD => bigSep (Finset.univ : Finset Key) fun x => (openTok ER (xCell c x) : sProp 𝕄))
      ∗ (bigSep Finset.univ fun c : Dev nD => iprop(dutyTok ER (barCell (tgt true c)) 0 false ∗ dutyTok ER (barCell (tgt false c)) 0 true
        ∗ (bigSep (Finset.univ : Finset (Bool × Fin 6)) fun p => payR (F := F) p.1 p.2 c))))
      ⊢ (bigSep Finset.univ fun c : Dev nD => linear (F := F) c : sProp 𝕄) := by
    rw [← bigSep_sep', ← bigSep_sep']
    exact BI.Entails.refl _
  have hend (κ : GSem nD τ sig → ℕ) : iprop(records (Mv (Vb (V1 m))) κ ∗ (bigSep Finset.univ fun c : Dev nD => linear (F := F) c) ∗ (bigSep Finset.univ fun c : Dev nD => bundle m c))
      ⊢ (bigSep Finset.univ (T₀ m) : sProp 𝕄) := by
    rw [← bigSep_sep']
    exact bigSep_with_persistent (R := records (Mv (Vb (V1 m))) κ) fun c _ => T₀_of m κ c
  iintro ⟨H, -⟩
  ihave H' := hd $$ H
  icases H' with ⟨HB, Hv, HG⟩
  ihave Hu := hg $$ HG
  imod (Rounds.fund_launch ER (Rd (Mv (Vb (V1 m)))) disjoint_cells (fun g _ h => h) talkToks) $$ [Hv Hu] with ⟨%κ, -, #Hinv, #Hr, Hat, Hop, Htok⟩
  · isplitl [Hv]
    · iapply hv $$ Hv
    · iexact Hu
  imodintro
  iapply (hend κ)
  isplitr
  · unfold records
    isplitr; · iexact Hinv
    iexact Hr
  isplitr [HB]
  · iapply hlin
    isplitl [Hat]; · iapply hat; iexact Hat
    isplitl [Hop]; · iapply hop; iexact Hop
    iapply (toks_around (F := F)); iexact Htok
  iexact HB

/-- The buffers at the end. -/
def Vd (c : Dev nD) : Valuation τ sig (Elt F) := StableHlo.after hostOps2 (Vc (V1 m) c)

def host2 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (Vc (V1 m)) (Ea (F := F))

def segList [∀ e, Nonempty (Elt F e)] (c : Dev nD) : List (Pipeline.Seg (pcfgs (F := F)) adm (pdats (V1 m)) () defs₀ 𝒱₀ L lv) :=
  [.host (seg0 m 𝒱₀ L lv (fun _ => Eb (V1 m)) c), .region (reg0 (V1 m)), .region (reg1 (V1 m)), .host (host2 m)]

abbrev Tₙ (c : Dev nD) : sProp 𝕄 := iprop(StableHlo.held (c : Thread nD τ) (Pipeline.ucRefs τ sig) (Vd m c) ∗ semVal (barCell c) 0)

set_option backward.isDefEq.respectTransparency.types false in
/-- Every fair execution from a memory at `m`, all counters at zero, ends with every buffer at what the operations and
    the two calls leave in it, and all counters at zero. -/
theorem run_main [∀ e, Nonempty (Elt F e)] : θ_run defs (onTc (τ := τ) (main (F := F))) ⟨m, fun _ => 0, ρ⟩
    (fun r => (∀ (c : Dev nD) (b : DevRef τ sig), b ∈ Pipeline.ucRefs τ sig → r.2.mem (c, b) = Vd m c b) ∧ r.2.sem = fun _ => 0) :=
  Pipeline.θ_run_regions_kit_dev_sems (pcfgs (F := F)) adm (pdats (V1 m)) () cellOf_inj EP defs₀ 𝒱₀ L lv m ρ main (segList m)
    (fun c Q => by
      rewrite [main_chain c, Pipeline.Seg.run_eq_chain,
        show (segList m c).map Pipeline.Seg.prog = [StableHlo.seq (hostOps0 c), Prog.lift (.customCall (Pipeline.entry 0) ()),
          Prog.lift (.customCall (Pipeline.entry 1) ()), StableHlo.seq hostOps2] from rfl]
      dsimp (config := { failIfUnchanged := false }) only
      exact .rfl)
    (fun c => by simp only [segList, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_at0]; iexact HX)
    (T₀ := T₀ m) (Tₙ := Tₙ m)
    (hch := fun c => ⟨.rfl, reg0_pre (V1 m) c, (reg0_post (V1 m) c).trans (reg1_pre (V1 m) c), reg1_post (V1 m) c, by
      show iprop(StableHlo.held (c : Thread nD τ) (Pipeline.ucRefs τ sig) (Vd m c) ∗ Ea (F := F) c) ⊢ _
      iintro ⟨Hh, Hb, HO⟩
      isplitr [HO]
      · isplitl [Hh]; · iexact Hh
        iexact Hb
      iexact HO⟩)
    (hinit := init m ρ)
    (QY := fun c s => (∀ b : DevRef τ sig, b ∈ Pipeline.ucRefs τ sig → s.mem (c, b) = Vd m c b) ∧ s.sem (barCell c) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (Vd m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1,
      sem_eq_zero hs fun c sm hsm => by
        obtain rfl := unscoped_eq sm hsm
        exact (h c).2⟩)

end Cert.KernelIdeal.Ring

end
-- ==== Proof.Kept.lean ====
/-
# `Kept`: what a run leaves

No host operation and no call writes an argument: at the end each argument holds what it held at the launch. The result
is what the last call left, behind a unit axis.
-/
module

public import proofs.«01_k».proof.Proof.Launch

@[expose] public section

noncomputable section

namespace Cert.KernelIdeal.Ring

open Cert.KernelIdeal Cert.KernelIdeal.Gen

open Idealize.ShloMosaic
open Idealize.ShloMosaic.TcCoe
open Idealize.SL.Sem

variable {F : FTy → Type} [FloatOps F] [Named F]

variable (m : (ℓ : Loc nD τ sig) → Buf (Elt F) ℓ) (ρ : Dev nD → PrngReg)

/-- The calls between the host operations leave everything but their results. -/
theorem Vc_kept (V : Dev nD → Valuation τ sig (Elt F)) (c : Dev nD) (r : Ref sig .tc) (h1 : r ≠ main_v20)
    (h2 : ∀ w : Fin 5, Pipeline.arrRef spec0 w = r → (cfg0.win w).isOut = false) :
    Vc V c (Proc.devRef .tc r) = V c (Proc.devRef .tc r) :=
  (V'_ne (Vb V) c (StableHlo.devRef_ne_of_ne h1)).trans
    (Pipeline.afterRegion_keeps (dat0 V c) (V c) winFacts0.arr_inj (fun _ => rfl) r h2)

theorem Vd_kept (c : Dev nD) (r : Ref sig .tc) (h0 : r ∉ hostOps0_W) (h1 : r ≠ main_v20) (h3 : r ∉ hostOps2_W)
    (h2 : ∀ w : Fin 5, Pipeline.arrRef spec0 w = r → (cfg0.win w).isOut = false) :
    Vd m c (Proc.devRef .tc r) = m ((c : Thread nD τ).loc r) :=
  (StableHlo.after_of_writes_sub hostOps2 _ hostOps2_writes h3).trans
    ((Vc_kept (V1 m) c r h1 h2).trans (V1_of m c r h0))

theorem Vd_out (c : Dev nD) : Vd m c (Proc.devRef .tc main_v21)
    = shapeCast S1x2048x1024 (OUT (Mv (Vb (V1 m)))) shapeCasts_S2048x1024_S1x2048x1024 := by
  show StableHlo.after hostOps2 (Vc (V1 m) c) _ = _
  after_results_simp
  exact congrArg (fun X => shapeCast S1x2048x1024 X shapeCasts_S2048x1024_S1x2048x1024) (V'_out (Vb (V1 m)) c)

/-- The run: every device ends with the result, its arguments as launched, every counter at zero. -/
theorem run_final [∀ e, Nonempty (Elt F e)] : θ_run defs (onTc (τ := τ) (main (F := F))) ⟨m, fun _ => 0, ρ⟩ (fun r =>
    (∀ c : Dev nD, r.2.mem ((c.tc : Thread nD τ).loc main_v21)
          = shapeCast S1x2048x1024 (OUT (Mv (Vb (V1 m)))) shapeCasts_S2048x1024_S1x2048x1024
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun r h => ⟨fun c =>
    have g : ∀ b : Ref sig .tc, (Proc.devRef .tc b : DevRef τ sig) ∈ Pipeline.ucRefs τ sig → r.2.mem ((c.tc : Thread nD τ).loc b) = Vd m c (Proc.devRef .tc b) := fun b hb => h.1 c (Proc.devRef .tc b) hb
    ⟨(g main_v21 (Finset.mem_filter.mpr ⟨StableHlo.devRef_mem_tcRefs main_v21, by decide⟩)).trans (Vd_out m c),
     (g main_arg0 (Finset.mem_filter.mpr ⟨StableHlo.devRef_mem_tcRefs main_arg0, by decide⟩)).trans (Vd_kept m c main_arg0 (by decide) (by decide) (by decide) (by decide)),
     (g main_arg1 (Finset.mem_filter.mpr ⟨StableHlo.devRef_mem_tcRefs main_arg1, by decide⟩)).trans (Vd_kept m c main_arg1 (by decide) (by decide) (by decide) (by decide)),
     (g main_arg2 (Finset.mem_filter.mpr ⟨StableHlo.devRef_mem_tcRefs main_arg2, by decide⟩)).trans (Vd_kept m c main_arg2 (by decide) (by decide) (by decide) (by decide)),
     (g main_arg3 (Finset.mem_filter.mpr ⟨StableHlo.devRef_mem_tcRefs main_arg3, by decide⟩)).trans (Vd_kept m c main_arg3 (by decide) (by decide) (by decide) (by decide)),
     (g main_arg4 (Finset.mem_filter.mpr ⟨StableHlo.devRef_mem_tcRefs main_arg4, by decide⟩)).trans (Vd_kept m c main_arg4 (by decide) (by decide) (by decide) (by decide))⟩, h.2⟩)
    (run_main m ρ)

end Cert.KernelIdeal.Ring

end
-- ==== Proof.Soft.lean ====
/-
# `Soft`: one row of a masked softmax, over the extended reals

A row of scores, a set of allowed keys, and the values those keys carry.  A key that is not allowed scores `⊥` and
so weighs nothing.  Two facts: a row may be computed from any list of keys that meets each allowed key once, and
dividing the weighted sum is dividing each weight, as soon as the scores are real.
-/
module

public import Idealize.ShloMosaic.Lib.IdealHost
public import Idealize.ShloMosaic.Lib.ValueIdx

@[expose] public section

noncomputable section

namespace Cert.Soft

open Idealize.ShloMosaic
open scoped BigOperators

variable {ι κ : Type} [Fintype ι] [Fintype κ]

/-- The scores with the keys not allowed at `⊥`. -/
def masked (P : ι → Prop) [DecidablePred P] (t : ι → EReal) (k : ι) : EReal := if P k then t k else ⊥

/-- The greatest score. -/
def peak (a : ι → EReal) : EReal := Finset.univ.sup a

/-- A key's weight before normalisation. -/
def wt (a : ι → EReal) (k : ι) : EReal := Ideal.exp (a k - peak a)

/-- The row: the weighted sum of the values over the sum of the weights. -/
def row (a v : ι → EReal) : EReal := Ideal.div (∑ k, wt a k * v k) (∑ k, wt a k)

theorem peak_eq_fold (a : ι → EReal) : Finset.univ.fold max ⊥ a = peak a := rfl

theorem exp_nonneg (x : EReal) : 0 ≤ Ideal.exp x := by
  induction x with
  | bot => exact le_refl _
  | top => exact le_top
  | coe r => rw [Ideal.exp_coe]; exact_mod_cast (Real.exp_pos r).le

theorem exp_bot_sub (m : EReal) : Ideal.exp (⊥ - m) = 0 := by
  rw [sub_eq_add_neg, EReal.bot_add, Ideal.exp_bot]

/-! ## A list of keys that meets each allowed key once -/

section
variable {P : ι → Prop} [DecidablePred P] {Q : κ → Prop} [DecidablePred Q] (key : κ → ι)
  (hPQ : ∀ j, Q j → P (key j)) (hinj : ∀ j j', Q j → Q j' → key j = key j' → j = j') (hcov : ∀ k, P k → ∃ j, Q j ∧ key j = k)
include hPQ hcov

theorem peak_list (t : ι → EReal) : peak (masked Q (t ∘ key)) = peak (masked P t) := by
  refine le_antisymm (Finset.sup_le fun j _ => ?_) (Finset.sup_le fun k _ => ?_)
  · unfold masked; split
    · rename_i h
      refine le_trans (le_of_eq ?_) (Finset.le_sup (f := masked P t) (Finset.mem_univ (key j)))
      unfold masked; rw [if_pos (hPQ j h)]; rfl
    · exact bot_le
  · unfold masked; split
    · rename_i h
      obtain ⟨j, hj, rfl⟩ := hcov k h
      refine le_trans (le_of_eq ?_) (Finset.le_sup (f := masked Q (t ∘ key)) (Finset.mem_univ j))
      unfold masked; rw [if_pos hj]; rfl
    · exact bot_le

include hinj

theorem sum_list (g : ι → EReal) : (∑ j, if Q j then g (key j) else 0) = ∑ k, if P k then g k else 0 := by
  rw [← Finset.sum_filter, ← Finset.sum_filter]
  refine Finset.sum_bij (fun j _ => key j) ?_ ?_ ?_ ?_
  · intro j hj; exact Finset.mem_filter.2 ⟨Finset.mem_univ _, hPQ j (Finset.mem_filter.1 hj).2⟩
  · intro j hj j' hj' h; exact hinj j j' (Finset.mem_filter.1 hj).2 (Finset.mem_filter.1 hj').2 h
  · intro k hk
    obtain ⟨j, hj, e⟩ := hcov k (Finset.mem_filter.1 hk).2
    exact ⟨j, Finset.mem_filter.2 ⟨Finset.mem_univ _, hj⟩, e⟩
  · intro j _; rfl

omit hPQ hcov hinj in
theorem wt_masked (P : ι → Prop) [DecidablePred P] (t : ι → EReal) (k : ι) :
    wt (masked P t) k = if P k then Ideal.exp (t k - peak (masked P t)) else 0 := by
  unfold wt
  by_cases h : P k
  · rw [if_pos h]; congr 2; unfold masked; rw [if_pos h]
  · rw [if_neg h]
    have : masked P t k = ⊥ := by unfold masked; rw [if_neg h]
    rw [this, exp_bot_sub]

theorem row_list (t v : ι → EReal) : row (masked Q (t ∘ key)) (v ∘ key) = row (masked P t) v := by
  unfold row
  have hp := peak_list key hPQ hcov t
  congr 1
  · simp only [wt_masked, hp, ite_mul, zero_mul, Function.comp]
    exact sum_list key hPQ hinj hcov (fun k => Ideal.exp (t k - peak (masked P t)) * v k)
  · simp only [wt_masked, hp, Function.comp]
    exact sum_list key hPQ hinj hcov (fun k => Ideal.exp (t k - peak (masked P t)))

end

/-- A row over two lists, one after the other. -/
theorem peak_sum (a : ι ⊕ κ → EReal) : peak a = max (peak fun i => a (.inl i)) (peak fun j => a (.inr j)) := by
  refine le_antisymm (Finset.sup_le fun k _ => ?_) (max_le (Finset.sup_le fun i _ => ?_) (Finset.sup_le fun j _ => ?_))
  · cases k with
    | inl i => exact le_max_of_le_left (Finset.le_sup (f := fun i => a (.inl i)) (Finset.mem_univ i))
    | inr j => exact le_max_of_le_right (Finset.le_sup (f := fun j => a (.inr j)) (Finset.mem_univ j))
  · exact Finset.le_sup (f := a) (Finset.mem_univ _)
  · exact Finset.le_sup (f := a) (Finset.mem_univ _)

/-! ## Dividing each weight -/

theorem sum_mul_nonneg (f : ι → EReal) (c : EReal) (h0 : 0 ≤ c) (ht : c ≠ ⊤) : (∑ k, f k) * c = ∑ k, f k * c := by
  classical
  induction (Finset.univ : Finset ι) using Finset.induction_on with
  | empty => simp
  | insert a s ha ih =>
    rw [Finset.sum_insert ha, Finset.sum_insert ha, EReal.right_distrib_of_nonneg_of_ne_top h0 ht, ih]

section
variable (P : ι → Prop) [DecidablePred P] (t : ι → EReal) (h0 : ∃ k, P k) (hr : ∀ k, t k ≠ ⊥ ∧ t k ≠ ⊤)
include h0 hr

theorem one_le_total : 1 ≤ ∑ k, wt (masked P t) k := by
  obtain ⟨k0, hk0⟩ := h0
  obtain ⟨k, -, hk⟩ := Finset.exists_mem_eq_sup (Finset.univ : Finset ι) ⟨k0, Finset.mem_univ _⟩ (masked P t)
  have hP : P k := by
    by_contra h
    have hb : peak (masked P t) = ⊥ := hk.trans (by unfold masked; rw [if_neg h])
    have hle : t k0 ≤ ⊥ := by
      rw [← hb]
      refine le_trans (le_of_eq ?_) (Finset.le_sup (f := masked P t) (Finset.mem_univ k0))
      unfold masked; rw [if_pos hk0]
    exact (hr k0).1 (le_bot_iff.1 hle)
  have hm : peak (masked P t) = t k := hk.trans (by unfold masked; rw [if_pos hP])
  have h1 : wt (masked P t) k = 1 := by
    rw [wt_masked, if_pos hP, hm, EReal.sub_self (hr k).2 (hr k).1, ← EReal.coe_zero, Ideal.exp_coe, Real.exp_zero, EReal.coe_one]
  rw [← h1]
  exact Finset.single_le_sum (f := wt (masked P t)) (fun i _ => exp_nonneg _) (Finset.mem_univ k)

/-- Dividing each weight by their sum is dividing the weighted sum by it. -/
theorem row_normalised (v : ι → EReal) :
    (∑ k, v k * Ideal.div (wt (masked P t) k) (∑ k, wt (masked P t) k)) = row (masked P t) v := by
  have h1 := one_le_total P t h0 hr
  unfold row
  generalize hD : (∑ k, wt (masked P t) k) = D at h1 ⊢
  have hD0 : D ≠ 0 := fun h => by rw [h] at h1; exact absurd h1 (by norm_num)
  have hpos : (0 : EReal) ≤ D := le_trans zero_le_one h1
  have hinv : 0 ≤ D⁻¹ := EReal.inv_nonneg_of_nonneg hpos
  have htop : D⁻¹ ≠ ⊤ := by
    induction D with
    | bot => simp
    | top => simp
    | coe r => rw [← EReal.coe_inv]; exact EReal.coe_ne_top _
  unfold Ideal.div
  simp only [if_neg hD0]
  rw [sum_mul_nonneg _ _ hinv htop]
  refine Finset.sum_congr rfl fun k _ => ?_
  rw [← mul_assoc, mul_comm (v k)]

end

/-! ## Real values -/

/-- Neither infinity. -/
def IsReal (x : EReal) : Prop := x ≠ ⊥ ∧ x ≠ ⊤

theorem isReal_coe (r : ℝ) : IsReal (r : EReal) := ⟨EReal.coe_ne_bot r, EReal.coe_ne_top r⟩

theorem IsReal.exists {x : EReal} (h : IsReal x) : ∃ r : ℝ, x = r := ⟨x.toReal, (EReal.coe_toReal h.2 h.1).symm⟩

theorem IsReal.mul {x y : EReal} (hx : IsReal x) (hy : IsReal y) : IsReal (x * y) := by
  obtain ⟨a, rfl⟩ := hx.exists
  obtain ⟨b, rfl⟩ := hy.exists
  rw [← EReal.coe_mul]; exact isReal_coe _

theorem IsReal.add {x y : EReal} (hx : IsReal x) (hy : IsReal y) : IsReal (x + y) := by
  obtain ⟨a, rfl⟩ := hx.exists
  obtain ⟨b, rfl⟩ := hy.exists
  rw [← EReal.coe_add]; exact isReal_coe _

theorem isReal_sum (f : ι → EReal) (h : ∀ k, IsReal (f k)) : IsReal (∑ k, f k) := by
  classical
  induction (Finset.univ : Finset ι) using Finset.induction_on with
  | empty => rw [Finset.sum_empty]; exact isReal_coe 0
  | insert a s ha ih => rw [Finset.sum_insert ha]; exact (h a).add ih

/-! ## The attention's row -/

/-- Which keys query `q` meets: a band of 128 on each side, and the first 32 tokens as keys and as queries. -/
abbrev allowed (q k : ℕ) : Prop := (q ≤ k + 128 ∧ k ≤ q + 128) ∨ k < 32 ∨ q < 32

/-- The row of query `q` from its scores. -/
abbrev attend (q : ℕ) (t v : Fin 2048 → EReal) : EReal := row (masked (fun k : Fin 2048 => allowed q k.val) t) v

/-- The scale of the scores. -/
abbrev scale : EReal := Ideal.ofBits .f32 0x3DB504F3#32

theorem scale_real : IsReal scale := by
  unfold scale
  simp [Ideal.ofBits, Ideal.ieee, -EReal.coe_mul]
  exact isReal_coe _

/-- The keys a banded tile reads: the first 128, and 768 from `bs` on. -/
def tileKeys (bs : ℕ) (h : bs + 768 ≤ 2048) : Fin 128 ⊕ Fin 768 → Fin 2048
  | .inl j => ⟨j.val, by omega⟩
  | .inr j => ⟨bs + j.val, by omega⟩

/-- Which of them query `q` meets there. -/
def sees (bs q : ℕ) : Fin 128 ⊕ Fin 768 → Prop
  | .inl j => j.val < 32
  | .inr j => q ≤ bs + j.val + 128 ∧ bs + j.val ≤ q + 128

instance (bs q : ℕ) : DecidablePred (sees bs q) := fun j => by cases j <;> unfold sees <;> infer_instance

theorem attend_band (bs q : ℕ) (h : bs + 768 ≤ 2048) (hq : bs + 128 ≤ q) (h32 : 160 ≤ q) (hbs : 32 ≤ bs) (hhi : q + 128 < bs + 768 ∨ 2048 ≤ bs + 768)
    (t v : Fin 2048 → EReal) :
    row (masked (sees bs q) (t ∘ tileKeys bs h)) (v ∘ tileKeys bs h) = attend q t v := by
  refine row_list (tileKeys bs h) ?_ ?_ ?_ t v
  · intro j hj
    cases j with
    | inl j => exact .inr (.inl hj)
    | inr j => exact .inl hj
  · intro j j' hj hj' e
    have e := congrArg Fin.val e
    cases j with
    | inl j => cases j' with
      | inl j' => congr 1; exact Fin.ext e
      | inr j' =>
        have h1 : j.val < 32 := hj
        have e : j.val = bs + j'.val := e
        omega
    | inr j => cases j' with
      | inl j' =>
        have h1 : j'.val < 32 := hj'
        have e : bs + j.val = j'.val := e
        omega
      | inr j' => congr 1; refine Fin.ext ?_; have e : bs + j.val = bs + j'.val := e; omega
  · rintro k hk
    have hk : (q ≤ k.val + 128 ∧ k.val ≤ q + 128) ∨ k.val < 32 ∨ q < 32 := hk
    have hlt := k.isLt
    by_cases hs : k.val < 32
    · exact ⟨.inl ⟨k.val, by omega⟩, hs, rfl⟩
    · have hb : q ≤ k.val + 128 ∧ k.val ≤ q + 128 := by omega
      refine ⟨.inr ⟨k.val - bs, by omega⟩, ?_, Fin.ext ?_⟩
      · show q ≤ bs + (k.val - bs) + 128 ∧ bs + (k.val - bs) ≤ q + 128
        omega
      · show bs + (k.val - bs) = k.val
        omega

end Cert.Soft

end
-- ==== Proof.Words.lean ====
/-
# `Words`: the masks' bits

Which keys a query meets, as the programs compute it on 32-bit words.
-/
module

public import proofs.«01_k».proof.Proof.Soft
public import Idealize.ShloMosaic.Lib.WordCmp

@[expose] public section

noncomputable section

namespace Cert.Soft

open Idealize.ShloMosaic Idealize.ShloMosaic.WordCmp

/-- The difference of two small words, signed. -/
theorem sub_toInt (a b : ℕ) (ha : a < 4096) (hb : b < 4096) :
    (IntOp.subi (BitVec.ofNat 32 a) (BitVec.ofNat 32 b)).toInt = (a : ℤ) - b := by
  show (BitVec.ofNat 32 a - BitVec.ofNat 32 b).toInt = _
  rw [BitVec.toInt_sub, toInt_ofNat_of_lt (by omega), toInt_ofNat_of_lt (by omega), Int.bmod_eq_of_le (by omega) (by omega)]

theorem abs_toInt (a b : ℕ) (ha : a < 4096) (hb : b < 4096) :
    (IntOp.absi (IntOp.subi (BitVec.ofNat 32 a) (BitVec.ofNat 32 b))).toInt = |(a : ℤ) - b| := by
  have h := sub_toInt a b ha hb
  generalize IntOp.subi (BitVec.ofNat 32 a) (BitVec.ofNat 32 b) = x at h ⊢
  unfold IntOp.absi
  rw [BitVec.msb_eq_toInt]
  by_cases h0 : x.toInt < 0
  · rw [if_pos (by simpa using h0), BitVec.toInt_neg, h, Int.bmod_eq_of_le (by omega) (by omega), abs_of_neg (by omega)]
  · rw [if_neg (by simpa using h0), h, abs_of_nonneg (by omega)]

/-- Within 128 of each other. -/
theorem near_bit (q k : ℕ) (hq : q < 2048) (hk : k < 2048) :
    IntOp.cmpi .sle (IntOp.absi (IntOp.subi (BitVec.ofNat 32 q) (BitVec.ofNat 32 k))) 128#32 = BitVec.ofBool (decide (q ≤ k + 128 ∧ k ≤ q + 128)) := by
  rw [cmpi_sle_eq, abs_toInt q k (by omega) (by omega)]
  have : (128#32 : BitVec 32).toInt = 128 := by decide
  rw [this]
  congr 1
  rw [decide_eq_decide, abs_le]
  omega

/-- The mask, with its two last clauses joined first or last. -/
theorem mask_bit (q k : ℕ) (hq : q < 2048) (hk : k < 2048) :
    IntOp.ori (IntOp.ori (IntOp.cmpi .sle (IntOp.absi (IntOp.subi (BitVec.ofNat 32 q) (BitVec.ofNat 32 k))) 128#32) (IntOp.cmpi .slt (BitVec.ofNat 32 k) 32#32))
      (IntOp.cmpi .slt (BitVec.ofNat 32 q) 32#32) = BitVec.ofBool (decide (allowed q k)) := by
  rw [near_bit q k hq hk, show (32#32 : BitVec 32) = BitVec.ofNat 32 32 from rfl, cmpi_slt_ofNat (by omega) (by omega), cmpi_slt_ofNat (by omega) (by omega), ori_ofBool, ori_ofBool]
  congr 1
  by_cases h1 : q ≤ k + 128 ∧ k ≤ q + 128 <;> by_cases h2 : k < 32 <;> by_cases h3 : q < 32 <;> simp [allowed, h1, h2, h3]

theorem mask_bit' (q k : ℕ) (hq : q < 2048) (hk : k < 2048) :
    IntOp.ori (IntOp.cmpi .sle (IntOp.absi (IntOp.subi (BitVec.ofNat 32 q) (BitVec.ofNat 32 k))) 128#32)
      (IntOp.ori (IntOp.cmpi .slt (BitVec.ofNat 32 k) 32#32) (IntOp.cmpi .slt (BitVec.ofNat 32 q) 32#32)) = BitVec.ofBool (decide (allowed q k)) := by
  rw [near_bit q k hq hk, show (32#32 : BitVec 32) = BitVec.ofNat 32 32 from rfl, cmpi_slt_ofNat (by omega) (by omega), cmpi_slt_ofNat (by omega) (by omega), ori_ofBool, ori_ofBool]
  congr 1
  by_cases h1 : q ≤ k + 128 ∧ k ≤ q + 128 <;> by_cases h2 : k < 32 <;> by_cases h3 : q < 32 <;> simp [allowed, h1, h2, h3]

/-- The bits of the first keys. -/
theorem first_bit (j : ℕ) (hj : j < 128) : IntOp.cmpi .slt (BitVec.ofNat 32 j) 32#32 = BitVec.ofBool (decide (j < 32)) := by
  rw [show (32#32 : BitVec 32) = BitVec.ofNat 32 32 from rfl, cmpi_slt_ofNat (by omega) (by omega)]

/-- Where a tile's band of keys starts, and how far its queries lie behind that start. -/
def bandAt (qb : ℕ) : ℕ := min (512 * qb - 128) 1280

theorem off_word (qb : ℕ) (h1 : 1 ≤ qb) (h2 : qb < 4) :
    Scalar.subi (Scalar.muli (BitVec.ofNat 32 qb) 512#32) (Scalar.minsi (Scalar.subi (Scalar.muli (BitVec.ofNat 32 qb) 512#32) 128#32) 1280#32)
      = BitVec.ofNat 32 (512 * qb - bandAt qb) := by
  obtain rfl | rfl | rfl : qb = 1 ∨ qb = 2 ∨ qb = 3 := by omega
  all_goals decide

/-- The bits of the band's keys. -/
theorem band_bit (qb r j : ℕ) (h1 : 1 ≤ qb) (h2 : qb < 4) (hr : r < 512) (hj : j < 768) :
    IntOp.andi
      (IntOp.cmpi .sge (BitVec.ofNat 32 j) (IntOp.subi (IntOp.addi (BitVec.ofNat 32 r) (BitVec.ofNat 32 (512 * qb - bandAt qb))) 128#32))
      (IntOp.cmpi .sle (BitVec.ofNat 32 j) (IntOp.addi (IntOp.addi (BitVec.ofNat 32 r) (BitVec.ofNat 32 (512 * qb - bandAt qb))) 128#32))
      = BitVec.ofBool (decide (512 * qb + r ≤ bandAt qb + j + 128 ∧ bandAt qb + j ≤ 512 * qb + r + 128)) := by
  have hb : bandAt qb ≤ 512 * qb ∧ 512 * qb - bandAt qb ≤ 256 := by
    unfold bandAt
    omega
  rw [show (128#32 : BitVec 32) = BitVec.ofNat 32 128 from rfl, addi_ofNat, addi_ofNat, cmpi_sle_ofNat (by omega) (by omega), cmpi_sge_eq, sub_toInt _ _ (by omega) (by omega),
    toInt_ofNat_of_lt (by omega), andi_ofBool, ← Bool.decide_and]
  congr 1
  rw [decide_eq_decide]
  omega

end Cert.Soft

end
-- ==== Proof.AttnValue.lean ====
/-
# `AttnValue`: the attention call's tile over the extended reals

Element by element, both ways of computing a tile give the masked softmax's row.
-/
module

public import proofs.«01_k».proof.Proof.Attn
public import proofs.«01_k».proof.Proof.Words
public import Idealize.ShloMosaic.Lib.MatmulPlain
public import Idealize.ShloMosaic.Lib.ValueLayout
public import Idealize.ShloMosaic.Lib.ValueLayoutCasts
public import Idealize.ShloMosaic.Lib.KernelVsHost

@[expose] public section

noncomputable section

namespace Cert.KernelIdeal.Ring

open Cert.KernelIdeal Cert.KernelIdeal.Gen

open Idealize.ShloMosaic
open Idealize.ShloMosaic.ValueIdx
open Idealize.ShloMosaic.WordCmp (select_ofBool)
open Cert.Soft
open scoped BigOperators

/-! ## Rows of a tile of scores -/

section
variable {N : ℕ}

theorem lift_row (h : Shape.Reduces ⟨2, ![512, N]⟩ [1] ⟨1, ![512]⟩) (r : Fin 512) (j : Fin N) : h.lift (ix1 r) j = ix2 r j := by
  funext a; apply Fin.ext
  match a with
  | ⟨0, _⟩ => rfl
  | ⟨1, _⟩ => rfl

theorem row_max (A : FVec Ideal ⟨2, ![512, N]⟩ .f32) (h : Shape.Reduces ⟨2, ![512, N]⟩ [1] ⟨1, ![512]⟩) (hφ) (hacc) (r : Fin 512) :
    multiReduction .maximumf [1] ⟨1, ![512]⟩ A 0xFF800000#32 h hφ hacc (ix1 r) = peak fun j : Fin N => A (ix2 r j) := by
  refine (Ideal.multiReduction_maximumf_single A _ h hφ hacc (ix1 r)).trans ?_
  rw [← peak_eq_fold]
  have h0 : (FloatOps.ofBits (F := Ideal) .f32 0xFF800000#32 : EReal) = ⊥ := by
    show Ideal.ofBits .f32 0xFF800000#32 = ⊥
    simp [Ideal.ofBits, Ideal.ieee]
  rw [h0]
  refine congrArg (fun f => Finset.fold max (⊥ : EReal) f (Finset.univ : Finset (Fin N))) ?_
  funext j
  exact congrArg A (lift_row h r j)

theorem row_sum (A : FVec Ideal ⟨2, ![512, N]⟩ .f32) (h : Shape.Reduces ⟨2, ![512, N]⟩ [1] ⟨1, ![512]⟩) (hφ) (hacc) (r : Fin 512) :
    multiReduction .add [1] ⟨1, ![512]⟩ A 0x00000000#32 h hφ hacc (ix1 r) = (∑ j : Fin N, A (ix2 r j) : EReal) := by
  refine (Ideal.multiReduction_add_single A _ h hφ hacc (ix1 r)).trans ?_
  exact Finset.sum_congr rfl fun j _ => congrArg A (lift_row h r j)

theorem col_bcast (hN : N ≠ 1) (A : (⟨2, ![512, 1]⟩ : Shape).Idx → EReal) (h : Shape.Broadcasts ⟨2, ![512, 1]⟩ ⟨2, ![512, N]⟩) (r : Fin 512) (j : Fin N) :
    broadcastTo ⟨2, ![512, N]⟩ A h (ix2 r j) = A (ix2 r 0) :=
  broadcastTo_apply A h _ _ fun a => match a with
    | ⟨0, _⟩ => rfl
    | ⟨1, _⟩ => rfl

theorem col_cast (A : (⟨1, ![512]⟩ : Shape).Idx → EReal) (h : Shape.ShapeCasts ⟨1, ![512]⟩ ⟨2, ![512, 1]⟩) (r : Fin 512) :
    shapeCast ⟨2, ![512, 1]⟩ A h (ix2 r 0) = A (ix1 r) := shapeCast_a_a1_apply A h r 0

end

theorem zero_splat {s : Shape} (i : s.Idx) : (constant (F := Ideal) s .f32 0x00000000#32) i = (0 : EReal) := by
  show Ideal.ofBits .f32 0x00000000#32 = 0
  simp

/-- The mask's named constant. -/
theorem mask_named : (Named.named (F := Ideal) Cert.KernelIdeal.κ "mask" (φ := .f32) 0xCE6E6B28#32 : EReal) = ⊥ := rfl

/-! ## Scores -/

/-- A query of a tile projected. -/
def proj (x : Vec Ideal S512x1024 .f32) (w : Vec Ideal S1024x128 .f32) (r : Fin 512) (d : Fin 128) : EReal :=
  ∑ i : Fin 1024, x (ix2 r i) * w (ix2 i d)

/-- The scores of query `r` of a tile. -/
def scores (x : Vec Ideal S512x1024 .f32) (w : Vec Ideal S1024x128 .f32) (k : Vec Ideal S1x2048x128 .f32) (r : Fin 512) (j : Fin 2048) : EReal :=
  (∑ d : Fin 128, proj x w r d * k (ix3 0 j d)) * scale

theorem pay1_at (x : Vec Ideal S512x1024 .f32) (w : Vec Ideal S1024x128 .f32) (r : Fin 512) (d : Fin 128) :
    k0_pay1 (F := Ideal) x w (ix2 r d) = proj x w r d := by
  unfold k0_pay1 proj
  rw [shapeCast_self, shapeCast_self]
  refine (Ideal.matmul_plain_apply (M := 512) (K := 1024) (N := 128) none x w _ r d).trans ?_
  rw [zero_splat, zero_add]

/-- The weighted sum and the sum of the weights, from the tile of weights. -/
theorem quotient {N : ℕ} (a v : Fin N → EReal) (num den : EReal) (hn : num = ∑ j, wt a j * v j) (hd : den = ∑ j, wt a j) :
    Ideal.div num den = row a v := by rw [hn, hd]; rfl

theorem dense_scores (x : Vec Ideal S512x1024 .f32) (w : Vec Ideal S1024x128 .f32) (k : Vec Ideal S1x2048x128 .f32) (r : Fin 512) (j : Fin 2048) :
    (matmul (F := Ideal) (φ₁ := .f32) (φ₂ := .f32) dot_S512x128_S2048x128_S512x2048_1_1_0_0_n_n none (k0_pay1 (F := Ideal) x w) (shapeCast S2048x128 k shapeCasts_S1x2048x128_S2048x128)
      (constant S512x2048 .f32 0x00000000#32) (ix2 r j) * scale : EReal) = scores x w k r j := by
  unfold scores
  refine congrArg (· * scale) ?_
  refine (Ideal.matmul_transposedRhs_apply (M := 512) (K := 128) (N := 2048) none (k0_pay1 (F := Ideal) x w) (shapeCast S2048x128 k shapeCasts_S1x2048x128_S2048x128) _ r j).trans ?_
  rw [zero_splat, zero_add]
  refine Finset.sum_congr rfl fun d _ => ?_
  rw [pay1_at]
  exact congrArg (proj x w r d * ·) (shapeCast_1ab_ab_apply (a := 2048) (b := 128) k _ j d)

/-- A dense tile's masked scores. -/
def denseT (x : Vec Ideal S512x1024 .f32) (w : Vec Ideal S1024x128 .f32) (k : Vec Ideal S1x2048x128 .f32) : FVec Ideal S512x2048 .f32 :=
  select (ori (ori (cmpi .sle (absi (subi (iota .tc S512x2048 32 [0] iota_S512x2048_d0_w32) (iota .tc S512x2048 32 [1] iota_S512x2048_d1_w32))) (broadcast S512x2048 128#32))
      (cmpi .slt (iota .tc S512x2048 32 [1] iota_S512x2048_d1_w32) (broadcast S512x2048 32#32)))
      (cmpi .slt (iota .tc S512x2048 32 [0] iota_S512x2048_d0_w32) (broadcast S512x2048 32#32)))
    (mulf (matmul (F := Ideal) (φ₁ := .f32) (φ₂ := .f32) dot_S512x128_S2048x128_S512x2048_1_1_0_0_n_n none (k0_pay1 (F := Ideal) x w) (shapeCast S2048x128 k shapeCasts_S1x2048x128_S2048x128)
      (constant S512x2048 .f32 0x00000000#32)) (broadcast S512x2048 (Scalar.ofBits .f32 0x3DB504F3#32)))
    (broadcast S512x2048 (Named.named κ "mask" 0xCE6E6B28#32))

theorem denseT_at (x : Vec Ideal S512x1024 .f32) (w : Vec Ideal S1024x128 .f32) (k : Vec Ideal S1x2048x128 .f32) (r : Fin 512) (j : Fin 2048) :
    denseT x w k (ix2 r j) = masked (fun k : Fin 2048 => allowed r.val k.val) (scores x w k r) j := by
  unfold denseT
  rw [select_apply]
  have hm := mask_bit r.val j.val (by omega) j.isLt
  rw [show (ori (ori (cmpi .sle (absi (subi (iota .tc S512x2048 32 [0] iota_S512x2048_d0_w32) (iota .tc S512x2048 32 [1] iota_S512x2048_d1_w32))) (broadcast S512x2048 128#32))
      (cmpi .slt (iota .tc S512x2048 32 [1] iota_S512x2048_d1_w32) (broadcast S512x2048 32#32)))
      (cmpi .slt (iota .tc S512x2048 32 [0] iota_S512x2048_d0_w32) (broadcast S512x2048 32#32))) (ix2 r j) = BitVec.ofBool (decide (allowed r.val j.val)) from by
    refine Eq.trans ?_ hm
    simp only [ori, cmpi, absi, subi, broadcast_apply]
    rw [show iota .tc S512x2048 32 [0] iota_S512x2048_d0_w32 (ix2 r j) = BitVec.ofNat 32 r.val from iota_single_apply .tc S512x2048 32 0 _ _,
      show iota .tc S512x2048 32 [1] iota_S512x2048_d1_w32 (ix2 r j) = BitVec.ofNat 32 j.val from iota_single_apply .tc S512x2048 32 1 _ _]]
  rw [select_ofBool]
  unfold masked
  simp only [decide_eq_true_eq]
  split
  · exact dense_scores x w k r j
  · exact mask_named

/-- A tile's weights from its scores. -/
abbrev wts (S : FVec Ideal S512x2048 .f32) : FVec Ideal S512x2048 .f32 :=
  exp (subf S (broadcastTo S512x2048 (shapeCast S512x1 (multiReduction .maximumf [1] S512 S 0xFF800000#32 reduces_S512x2048_S512 (.inl rfl) rfl) shapeCasts_S512_S512x1) broadcasts_S512x1_S512x2048))

theorem wts_at (S : FVec Ideal S512x2048 .f32) (r : Fin 512) (j : Fin 2048) : wts S (ix2 r j) = wt (fun j => S (ix2 r j)) j := by
  unfold wts wt
  show Ideal.exp (S (ix2 r j) - _) = _
  refine congrArg (fun z : EReal => Ideal.exp (S (ix2 r j) - z)) ?_
  refine (col_bcast (by decide) _ _ r j).trans ?_
  refine (col_cast _ _ r).trans ?_
  exact row_max S _ _ _ r

theorem attn_dense (x : Vec Ideal S512x1024 .f32) (w : Vec Ideal S1024x128 .f32) (k v : Vec Ideal S1x2048x128 .f32) (r : Fin 512) (d : Fin 128) :
    k0_pay2 (F := Ideal) x w k v (ix2 r d) = attend r.val (scores x w k r) (fun j => v (ix3 0 j d)) := by
  have e : k0_pay2 (F := Ideal) x w k v = divf (matmul (F := Ideal) (φ₁ := .f32) (φ₂ := .f32) dot_S512x2048_S2048x128_S512x128_1_0_0_1_n_n none (wts (denseT x w k)) (shapeCast S2048x128 v shapeCasts_S1x2048x128_S2048x128)
      (constant S512x128 .f32 0x00000000#32)) (broadcastTo S512x128 (shapeCast S512x1 (multiReduction .add [1] S512 (wts (denseT x w k)) 0x00000000#32 reduces_S512x2048_S512 (.inl rfl) rfl) shapeCasts_S512_S512x1)
      broadcasts_S512x1_S512x128) := rfl
  have hw : ∀ j : Fin 2048, wts (denseT x w k) (ix2 r j) = wt (masked (fun k : Fin 2048 => allowed r.val k.val) (scores x w k r)) j := fun j => by
    rw [wts_at]
    exact congrArg (wt · j) (funext fun j => denseT_at x w k r j)
  rw [e, divf_apply]
  refine quotient _ _ _ _ ?_ ?_
  · refine (Ideal.matmul_plain_apply (M := 512) (K := 2048) (N := 128) none (wts (denseT x w k)) _ _ r d).trans ?_
    rw [zero_splat, zero_add]
    refine Finset.sum_congr rfl fun j _ => ?_
    rw [hw]
    exact congrArg (wt _ j * ·) (shapeCast_1ab_ab_apply (a := 2048) (b := 128) v _ j d)
  · refine (col_bcast (by decide) _ _ r d).trans ?_
    refine (col_cast _ _ r).trans ?_
    refine (row_sum (wts (denseT x w k)) _ _ _ r).trans ?_
    exact Finset.sum_congr rfl fun j _ => hw j

/-! ## A banded tile -/

/-- Scores against any list of keys. -/
def dots {N : ℕ} (x : Vec Ideal S512x1024 .f32) (w : Vec Ideal S1024x128 .f32) (k : FVec Ideal ⟨3, ![1, N, 128]⟩ .f32) (r : Fin 512) (j : Fin N) : EReal :=
  (∑ d : Fin 128, proj x w r d * k (ix3 0 j d)) * scale

theorem dots_at {N : ℕ} (x : Vec Ideal S512x1024 .f32) (w : Vec Ideal S1024x128 .f32) (k : FVec Ideal ⟨3, ![1, N, 128]⟩ .f32)
    (hc : Shape.ShapeCasts ⟨3, ![1, N, 128]⟩ ⟨2, ![N, 128]⟩) (r : Fin 512) (j : Fin N) :
    (FloatOps.matmul (F := Ideal) (DotDims.transposedRhs 512 128 N) none (φ₁ := .f32) (φ₂ := .f32) (k0_pay1 (F := Ideal) x w) (shapeCast ⟨2, ![N, 128]⟩ k hc)
      (constant ⟨2, ![512, N]⟩ .f32 0x00000000#32) (ix2 r j) * scale : EReal) = dots x w k r j := by
  unfold dots
  refine congrArg (· * scale) ?_
  refine (Ideal.matmul_transposedRhs_apply (M := 512) (K := 128) (N := N) none (k0_pay1 (F := Ideal) x w) _ _ r j).trans ?_
  rw [zero_splat, zero_add]
  refine Finset.sum_congr rfl fun d _ => ?_
  rw [pay1_at]
  exact congrArg (proj x w r d * ·) (shapeCast_1ab_ab_apply (a := N) (b := 128) k _ j d)

theorem first_at (x : Vec Ideal S512x1024 .f32) (w : Vec Ideal S1024x128 .f32) (k : Vec Ideal S1x128x128 .f32) (r : Fin 512) (j : Fin 128) :
    k0_pay4 (F := Ideal) (k0_pay1 x w) k (ix2 r j) = if j.val < 32 then dots x w k r j else ⊥ := by
  have e : k0_pay4 (F := Ideal) (k0_pay1 x w) k = select (cmpi .slt (iota .tc S512x128 32 [1] iota_S512x128_d1_w32) (broadcast S512x128 32#32))
    (mulf (FloatOps.matmul (F := Ideal) (DotDims.transposedRhs 512 128 128) none (φ₁ := .f32) (φ₂ := .f32) (k0_pay1 (F := Ideal) x w) (shapeCast S128x128 k shapeCasts_S1x128x128_S128x128)
      (constant S512x128 .f32 0x00000000#32)) (broadcast S512x128 (Scalar.ofBits .f32 0x3DB504F3#32)))
    (broadcast S512x128 (Named.named κ "mask" 0xCE6E6B28#32)) := rfl
  rw [e, select_apply]
  rw [show (cmpi .slt (iota .tc S512x128 32 [1] iota_S512x128_d1_w32) (broadcast S512x128 32#32)) (ix2 r j) = BitVec.ofBool (decide (j.val < 32)) from by
    refine Eq.trans ?_ (first_bit j.val j.isLt)
    simp only [cmpi, broadcast_apply]
    rw [show iota .tc S512x128 32 [1] iota_S512x128_d1_w32 (ix2 r j) = BitVec.ofNat 32 j.val from iota_single_apply .tc S512x128 32 1 _ _]]
  rw [select_ofBool]
  simp only [decide_eq_true_eq]
  split
  · exact dots_at x w k _ r j
  · exact mask_named

theorem band_at (qb : ℕ) (h1 : 1 ≤ qb) (h2 : qb < 4) (x : Vec Ideal S512x1024 .f32) (w : Vec Ideal S1024x128 .f32) (k : Vec Ideal S1x768x128 .f32) (r : Fin 512) (j : Fin 768) :
    k0_pay5 (F := Ideal) (BitVec.ofNat 32 qb) (k0_pay1 x w) k (ix2 r j)
      = if 512 * qb + r.val ≤ bandAt qb + j.val + 128 ∧ bandAt qb + j.val ≤ 512 * qb + r.val + 128 then dots x w k r j else ⊥ := by
  have e : k0_pay5 (F := Ideal) (BitVec.ofNat 32 qb) (k0_pay1 x w) k =
    select (andi
      (cmpi .sge (iota .tc S512x768 32 [1] iota_S512x768_d1_w32) (subi (addi (iota .tc S512x768 32 [0] iota_S512x768_d0_w32) (broadcast S512x768 (Scalar.subi (Scalar.muli (BitVec.ofNat 32 qb) 512#32) (Scalar.minsi (Scalar.subi (Scalar.muli (BitVec.ofNat 32 qb) 512#32) 128#32) 1280#32)))) (broadcast S512x768 128#32)))
      (cmpi .sle (iota .tc S512x768 32 [1] iota_S512x768_d1_w32) (addi (addi (iota .tc S512x768 32 [0] iota_S512x768_d0_w32) (broadcast S512x768 (Scalar.subi (Scalar.muli (BitVec.ofNat 32 qb) 512#32) (Scalar.minsi (Scalar.subi (Scalar.muli (BitVec.ofNat 32 qb) 512#32) 128#32) 1280#32)))) (broadcast S512x768 128#32))))
    (mulf (FloatOps.matmul (F := Ideal) (DotDims.transposedRhs 512 128 768) none (φ₁ := .f32) (φ₂ := .f32) (k0_pay1 (F := Ideal) x w) (shapeCast S768x128 k shapeCasts_S1x768x128_S768x128)
      (constant S512x768 .f32 0x00000000#32)) (broadcast S512x768 (Scalar.ofBits .f32 0x3DB504F3#32)))
    (broadcast S512x768 (Named.named κ "mask" 0xCE6E6B28#32)) := rfl
  rw [e, select_apply, off_word qb h1 h2]
  have hb := band_bit qb r.val j.val h1 h2 r.isLt j.isLt
  have e0 : iota .tc S512x768 32 [0] iota_S512x768_d0_w32 (ix2 r j) = BitVec.ofNat 32 r.val := iota_single_apply .tc S512x768 32 0 _ _
  have e1 : iota .tc S512x768 32 [1] iota_S512x768_d1_w32 (ix2 r j) = BitVec.ofNat 32 j.val := iota_single_apply .tc S512x768 32 1 _ _
  rw [← e0, ← e1] at hb
  refine (congrArg (fun c => Scalar.select c _ _) hb).trans ?_
  rw [select_ofBool]
  simp only [decide_eq_true_eq]
  split
  · exact dots_at x w k _ r j
  · exact mask_named

theorem first_max (x : Vec Ideal S512x1024 .f32) (w : Vec Ideal S1024x128 .f32) (k : Vec Ideal S1x128x128 .f32) (r : Fin 512) :
    k0_pay6 (F := Ideal) (k0_pay1 x w) k (ix2 r 0) = peak fun j : Fin 128 => k0_pay4 (F := Ideal) (k0_pay1 x w) k (ix2 r j) := by
  unfold k0_pay6
  refine (col_cast _ _ r).trans ?_
  exact row_max (k0_pay4 (F := Ideal) (k0_pay1 x w) k) _ _ _ r

theorem band_max (a1 : BitVec 32) (x : Vec Ideal S512x1024 .f32) (w : Vec Ideal S1024x128 .f32) (k : Vec Ideal S1x768x128 .f32) (r : Fin 512) :
    k0_pay7 (F := Ideal) a1 (k0_pay1 x w) k (ix2 r 0) = peak fun j : Fin 768 => k0_pay5 (F := Ideal) a1 (k0_pay1 x w) k (ix2 r j) := by
  unfold k0_pay7
  refine (col_cast _ _ r).trans ?_
  exact row_max (k0_pay5 (F := Ideal) a1 (k0_pay1 x w) k) _ _ _ r

/-- The two parts of a banded row, joined. -/
theorem pay3_at (A : FVec Ideal S512x128 .f32) (B : FVec Ideal S512x768 .f32) (ma mb : FVec Ideal S512x1 .f32) (vg : Vec Ideal S1x128x128 .f32) (vb : Vec Ideal S1x768x128 .f32)
    (r : Fin 512) (d : Fin 128) (ha : ma (ix2 r 0) = peak fun j : Fin 128 => A (ix2 r j)) (hb : mb (ix2 r 0) = peak fun j : Fin 768 => B (ix2 r j)) :
    k0_pay3 (F := Ideal) A B ma mb vg vb (ix2 r d)
      = row (Sum.elim (fun j : Fin 128 => A (ix2 r j)) (fun j : Fin 768 => B (ix2 r j))) (Sum.elim (fun j => vg (ix3 0 j d)) (fun j => vb (ix3 0 j d))) := by
  let wA : FVec Ideal S512x128 .f32 := exp (subf A (broadcastTo S512x128 (maximumf ma mb) broadcasts_S512x1_S512x128))
  let wB : FVec Ideal S512x768 .f32 := exp (subf B (broadcastTo S512x768 (maximumf ma mb) broadcasts_S512x1_S512x768))
  have e : k0_pay3 (F := Ideal) A B ma mb vg vb = divf
      (addf (FloatOps.matmul (F := Ideal) (DotDims.plain 512 128 128) none (φ₁ := .f32) (φ₂ := .f32) wA (shapeCast S128x128 vg shapeCasts_S1x128x128_S128x128) (constant S512x128 .f32 0x00000000#32))
        (FloatOps.matmul (F := Ideal) (DotDims.plain 512 768 128) none (φ₁ := .f32) (φ₂ := .f32) wB (shapeCast S768x128 vb shapeCasts_S1x768x128_S768x128) (constant S512x128 .f32 0x00000000#32)))
      (broadcastTo S512x128 (addf (shapeCast S512x1 (multiReduction .add [1] S512 wA 0x00000000#32 reduces_S512x128_S512 (.inl rfl) rfl) shapeCasts_S512_S512x1)
        (shapeCast S512x1 (multiReduction .add [1] S512 wB 0x00000000#32 reduces_S512x768_S512 (.inl rfl) rfl) shapeCasts_S512_S512x1)) broadcasts_S512x1_S512x128) := rfl
  have hm : maximumf ma mb (ix2 r 0) = peak (Sum.elim (fun j : Fin 128 => A (ix2 r j)) (fun j : Fin 768 => B (ix2 r j))) := by
    rw [peak_sum, maximumf_apply, ha, hb]; rfl
  have hA : ∀ j : Fin 128, wA (ix2 r j) = wt (Sum.elim (fun j : Fin 128 => A (ix2 r j)) (fun j : Fin 768 => B (ix2 r j))) (.inl j) := fun j => by
    unfold wt
    rw [← hm]
    exact congrArg (fun z : EReal => Ideal.exp (A (ix2 r j) - z)) (col_bcast (by decide) _ _ r j)
  have hB : ∀ j : Fin 768, wB (ix2 r j) = wt (Sum.elim (fun j : Fin 128 => A (ix2 r j)) (fun j : Fin 768 => B (ix2 r j))) (.inr j) := fun j => by
    unfold wt
    rw [← hm]
    exact congrArg (fun z : EReal => Ideal.exp (B (ix2 r j) - z)) (col_bcast (by decide) _ _ r j)
  rw [e, divf_apply]
  unfold row
  rw [Fintype.sum_sum_type, Fintype.sum_sum_type]
  congr 1
  · rw [addf_apply]
    congr 1
    · refine (Ideal.matmul_plain_apply (M := 512) (K := 128) (N := 128) none wA _ _ r d).trans ?_
      rw [zero_splat, zero_add]
      refine Finset.sum_congr rfl fun j _ => ?_
      rw [hA]
      exact congrArg (wt _ _ * ·) (shapeCast_1ab_ab_apply (a := 128) (b := 128) vg _ j d)
    · refine (Ideal.matmul_plain_apply (M := 512) (K := 768) (N := 128) none wB _ _ r d).trans ?_
      rw [zero_splat, zero_add]
      refine Finset.sum_congr rfl fun j _ => ?_
      rw [hB]
      exact congrArg (wt _ _ * ·) (shapeCast_1ab_ab_apply (a := 768) (b := 128) vb _ j d)
  · refine (col_bcast (by decide) _ _ r d).trans ?_
    rw [addf_apply]
    congr 1
    · refine (col_cast _ _ r).trans ?_
      refine (row_sum wA _ _ _ r).trans ?_
      exact Finset.sum_congr rfl fun j _ => hA j
    · refine (col_cast _ _ r).trans ?_
      refine (row_sum wB _ _ _ r).trans ?_
      exact Finset.sum_congr rfl fun j _ => hB j

/-- A banded tile, from the first 128 keys and values and the 768 from the band's start. -/
theorem attn_band (qb : ℕ) (h1 : 1 ≤ qb) (h2 : qb < 4) (x : Vec Ideal S512x1024 .f32) (w : Vec Ideal S1024x128 .f32) (k v : Vec Ideal S1x2048x128 .f32)
    (kg vg : Vec Ideal S1x128x128 .f32) (kb vb : Vec Ideal S1x768x128 .f32) (hle : bandAt qb + 768 ≤ 2048)
    (hkg : ∀ j d, kg (ix3 0 j d) = k (ix3 0 (tileKeys (bandAt qb) hle (.inl j)) d)) (hkb : ∀ j d, kb (ix3 0 j d) = k (ix3 0 (tileKeys (bandAt qb) hle (.inr j)) d))
    (hvg : ∀ j d, vg (ix3 0 j d) = v (ix3 0 (tileKeys (bandAt qb) hle (.inl j)) d)) (hvb : ∀ j d, vb (ix3 0 j d) = v (ix3 0 (tileKeys (bandAt qb) hle (.inr j)) d))
    (r : Fin 512) (d : Fin 128) :
    k0_pay3 (F := Ideal) (k0_pay4 (k0_pay1 x w) kg) (k0_pay5 (BitVec.ofNat 32 qb) (k0_pay1 x w) kb) (k0_pay6 (k0_pay1 x w) kg) (k0_pay7 (BitVec.ofNat 32 qb) (k0_pay1 x w) kb) vg vb (ix2 r d)
      = attend (512 * qb + r.val) (scores x w k r) (fun j => v (ix3 0 j d)) := by
  rw [pay3_at _ _ _ _ _ _ r d (first_max x w kg r) (band_max _ x w kb r)]
  have hr := r.isLt
  have hbs : bandAt qb = min (512 * qb - 128) 1280 := rfl
  rw [← attend_band (bandAt qb) (512 * qb + r.val) hle (by omega) (by omega) (by omega) (by omega)]
  congr 1
  · funext j
    cases j with
    | inl j =>
      show k0_pay4 (F := Ideal) (k0_pay1 x w) kg (ix2 r j) = if j.val < 32 then scores x w k r (tileKeys (bandAt qb) hle (.inl j)) else ⊥
      rw [first_at]
      congr 1
      unfold dots scores
      simp only [hkg]
    | inr j =>
      show k0_pay5 (F := Ideal) (BitVec.ofNat 32 qb) (k0_pay1 x w) kb (ix2 r j) = if 512 * qb + r.val ≤ bandAt qb + j.val + 128 ∧ bandAt qb + j.val ≤ 512 * qb + r.val + 128 then scores x w k r (tileKeys (bandAt qb) hle (.inr j)) else ⊥
      rw [band_at qb h1 h2]
      congr 1
      unfold dots scores
      simp only [hkb]
  · funext j
    cases j with
    | inl j => exact hvg j d
    | inr j => exact hvb j d

/-! ## The tile -/

theorem band_off : ∀ i : grid0.Coords, k0_cond2 i = 1#1 → k0_off1 i = ![0, bandAt (i 1).val, 0] ∧ 1 ≤ (i 1).val ∧ (i 1).val < 4 := by decide +kernel
theorem dense_at : ∀ i : grid0.Coords, ¬ k0_cond2 i = 1#1 → (i 1).val = 0 := by decide +kernel

theorem attnOut_at (i : grid0.Coords) (x : Vec Ideal S512x1024 .f32) (w : Vec Ideal S1024x128 .f32) (k v : Vec Ideal S1x2048x128 .f32) (r : Fin 512) (d : Fin 128) :
    attnOut (F := Ideal) i x w k v (ix2 r d) = attend (512 * (i 1).val + r.val) (scores x w k r) (fun j => v (ix3 0 j d)) := by
  unfold attnOut
  split
  · rename_i h
    obtain ⟨ho, h1, h2⟩ := band_off i h
    have hle : bandAt (i 1).val + 768 ≤ 2048 := by unfold bandAt; omega
    have hg : ∀ (X : Vec Ideal S1x2048x128 .f32) (j : Fin 128) (d : Fin 128), (View.ld (Val := Elt Ideal) (e' := .f32) X rg : Vec Ideal S1x128x128 .f32) (ix3 0 j d) = X (ix3 0 (tileKeys (bandAt (i 1).val) hle (.inl j)) d) := fun X j d => by
      refine congrArg X (funext fun a => Fin.ext ?_)
      match a with
      | ⟨0, _⟩ => rfl
      | ⟨1, _⟩ => show 0 + 1 * j.val = j.val; omega
      | ⟨2, _⟩ => show 0 + 1 * d.val = d.val; omega
    have hb : ∀ (X : Vec Ideal S1x2048x128 .f32) (j : Fin 768) (d : Fin 128), (View.ld (Val := Elt Ideal) (e' := .f32) X (rb i h) : Vec Ideal S1x768x128 .f32) (ix3 0 j d) = X (ix3 0 (tileKeys (bandAt (i 1).val) hle (.inr j)) d) := fun X j d => by
      refine congrArg X (funext fun a => Fin.ext ?_)
      match a with
      | ⟨0, _⟩ => show k0_off1 i 0 + 1 * 0 = 0; rw [ho]; rfl
      | ⟨1, _⟩ => show k0_off1 i 1 + 1 * j.val = bandAt (i 1).val + j.val; rw [ho]; show bandAt (i 1).val + 1 * j.val = _; omega
      | ⟨2, _⟩ => show k0_off1 i 2 + 1 * d.val = d.val; rw [ho]; show 0 + 1 * d.val = _; omega
    exact attn_band (i 1).val h1 h2 x w k v _ _ _ _ hle (hg k) (hb k) (hg v) (hb v) r d
  · rename_i h
    have h0 := dense_at i h
    rw [h0, attn_dense, Nat.mul_zero, Nat.zero_add]

end Cert.KernelIdeal.Ring

end
-- ==== Proof.Score.lean ====
/-
# `Score`: one head of the attention, row by row

A query's score against a key, and the head's value at a query, as functions of the query's row of the input, the
head's columns of the projection, its keys and its values.
-/
module

public import proofs.«01_k».proof.Proof.Soft

@[expose] public section

noncomputable section

namespace Cert.Soft

open Idealize.ShloMosaic
open scoped BigOperators

/-- A query's scaled score against each key: the projected row against the key. -/
def score (x : Fin 1024 → EReal) (w : Fin 1024 → Fin 128 → EReal) (k : Fin 2048 → Fin 128 → EReal) (j : Fin 2048) : EReal :=
  (∑ d : Fin 128, (∑ i : Fin 1024, x i * w i d) * k j d) * scale

/-- Of real inputs the scores are real. -/
theorem score_real {x : Fin 1024 → EReal} {w : Fin 1024 → Fin 128 → EReal} {k : Fin 2048 → Fin 128 → EReal}
    (hx : ∀ i, IsReal (x i)) (hw : ∀ i d, IsReal (w i d)) (hk : ∀ j d, IsReal (k j d)) (j : Fin 2048) : IsReal (score x w k j) := by
  unfold score
  refine IsReal.mul (isReal_sum _ fun d => IsReal.mul (isReal_sum _ fun i => IsReal.mul (hx i) (hw i d)) (hk j d)) scale_real

/-- Column `e` of the heads' values side by side belongs to head `e / 128`. -/
def hd {n : ℕ} (e : Fin (n * 128)) : Fin n := ⟨e.val / 128, (Nat.div_lt_iff_lt_mul (by norm_num)).mpr e.isLt⟩

/-- The head's own column. -/
def lane {n : ℕ} (e : Fin (n * 128)) : Fin 128 := ⟨e.val % 128, Nat.mod_lt _ (by norm_num)⟩

end Cert.Soft

end
-- ==== Proof.Heads.lean ====
/-
# `Heads`: the attention call's array over the extended reals

Every point of the grid writes its tile of one array: the heads' values side by side. The tiles cover the array, so
after the call it holds, at each query and column, the masked softmax's row of that column's head.
-/
module

public import proofs.«01_k».proof.Proof.AttnValue
public import proofs.«01_k».proof.Proof.Score
public import proofs.«01_k».proof.Proof.Launch

@[expose] public section

noncomputable section

namespace Cert.KernelIdeal.Ring

open Cert.KernelIdeal Cert.KernelIdeal.Gen

open Idealize.ShloMosaic
open Idealize.ShloMosaic.TcCoe
open Idealize.ShloMosaic.ValueIdx
open Idealize.ShloMosaic.Pipeline (Dat Cfg Window)
open Cert.Soft
open scoped BigOperators

/-! ## Where a block sits in its array -/

theorem co0 (t : Fin cfg0.N) : (grid0.coords t 0).val < 8 := (grid0.coords t 0).isLt
theorem co1 (t : Fin cfg0.N) : (grid0.coords t 1).val < 4 := (grid0.coords t 1).isLt

theorem word8 {n : ℕ} (h : n < 8) : (BitVec.ofNat 32 n).toNat = n := by
  rw [BitVec.toNat_ofNat]; exact Nat.mod_eq_of_lt (by omega)

/-- Query `r` of the point's tile. -/
def qry (t : Fin cfg0.N) (r : Fin 512) : Fin 2048 := ⟨512 * (grid0.coords t 1).val + r.val, by have := co1 t; omega⟩

/-- Column `d` of the point's head. -/
def colAt (t : Fin cfg0.N) (d : Fin 128) : Fin 1024 := ⟨128 * (grid0.coords t 0).val + d.val, by have := co0 t; omega⟩

theorem blk_x (t : Fin cfg0.N) (r : Fin 512) (i : Fin 1024) :
    ((cfg0.win 0).blk t).view.emb (ix2 r i : S512x1024.Idx) = (ix2 (qry t r) i : S2048x1024.Idx) := by
  funext a
  apply Fin.ext
  refine ((cfg0.win 0).rect_emb_val t (ix2 r i : S512x1024.Idx) a).trans ?_
  have h1 := co1 t
  match a with
  | ⟨0, _⟩ => show (BitVec.ofNat 32 (grid0.coords t 1).val).toNat * 512 + r.val = 512 * (grid0.coords t 1).val + r.val; rw [word8 (by omega)]; omega
  | ⟨1, _⟩ => show (0#32).toNat * 1024 + i.val = i.val; simp

theorem blk_w (t : Fin cfg0.N) (i : Fin 1024) (d : Fin 128) :
    ((cfg0.win 1).blk t).view.emb (ix2 i d : S1024x128.Idx) = (ix2 i (colAt t d) : S1024x1024.Idx) := by
  funext a
  apply Fin.ext
  refine ((cfg0.win 1).rect_emb_val t (ix2 i d : S1024x128.Idx) a).trans ?_
  have h0 := co0 t
  match a with
  | ⟨0, _⟩ => show (0#32).toNat * 1024 + i.val = i.val; simp
  | ⟨1, _⟩ => show (BitVec.ofNat 32 (grid0.coords t 0).val).toNat * 128 + d.val = 128 * (grid0.coords t 0).val + d.val; rw [word8 h0]; omega

theorem blk_k (t : Fin cfg0.N) (j : Fin 2048) (d : Fin 128) :
    ((cfg0.win 2).blk t).view.emb (ix3 0 j d : S1x2048x128.Idx) = (ix3 (grid0.coords t 0) j d : S8x2048x128.Idx) := by
  funext a
  apply Fin.ext
  refine ((cfg0.win 2).rect_emb_val t (ix3 0 j d : S1x2048x128.Idx) a).trans ?_
  have h0 := co0 t
  match a with
  | ⟨0, _⟩ => show (BitVec.ofNat 32 (grid0.coords t 0).val).toNat * 1 + 0 = (grid0.coords t 0).val; rw [word8 h0]; omega
  | ⟨1, _⟩ => show (0#32).toNat * 2048 + j.val = j.val; simp
  | ⟨2, _⟩ => show (0#32).toNat * 128 + d.val = d.val; simp

theorem blk_v (t : Fin cfg0.N) (j : Fin 2048) (d : Fin 128) :
    ((cfg0.win 3).blk t).view.emb (ix3 0 j d : S1x2048x128.Idx) = (ix3 (grid0.coords t 0) j d : S8x2048x128.Idx) := by
  funext a
  apply Fin.ext
  refine ((cfg0.win 3).rect_emb_val t (ix3 0 j d : S1x2048x128.Idx) a).trans ?_
  have h0 := co0 t
  match a with
  | ⟨0, _⟩ => show (BitVec.ofNat 32 (grid0.coords t 0).val).toNat * 1 + 0 = (grid0.coords t 0).val; rw [word8 h0]; omega
  | ⟨1, _⟩ => show (0#32).toNat * 2048 + j.val = j.val; simp
  | ⟨2, _⟩ => show (0#32).toNat * 128 + d.val = d.val; simp

theorem blk_o (t : Fin cfg0.N) (r : Fin 512) (d : Fin 128) :
    ((cfg0.win 4).blk t).view.emb (ix2 r d : S512x128.Idx) = (ix2 (qry t r) (colAt t d) : S2048x1024.Idx) := by
  funext a
  apply Fin.ext
  refine ((cfg0.win 4).rect_emb_val t (ix2 r d : S512x128.Idx) a).trans ?_
  have h0 := co0 t
  have h1 := co1 t
  match a with
  | ⟨0, _⟩ => show (BitVec.ofNat 32 (grid0.coords t 1).val).toNat * 512 + r.val = 512 * (grid0.coords t 1).val + r.val; rw [word8 (by omega)]; omega
  | ⟨1, _⟩ => show (BitVec.ofNat 32 (grid0.coords t 0).val).toNat * 128 + d.val = 128 * (grid0.coords t 0).val + d.val; rw [word8 h0]; omega

/-! ## The whole array -/

/-- The heads' values side by side, of the input, the projection, and each head's keys and values. -/
def ctx (x : Vec Ideal S2048x1024 .f32) (w : Vec Ideal S1024x1024 .f32) (k v : Vec Ideal S8x2048x128 .f32) : Vec Ideal S2048x1024 .f32 := fun p =>
  let h : Fin 8 := hd (n := 8) (p 1)
  attend (p 0).val (score (fun i => x (ix2 (p 0) i)) (fun i d => w (ix2 i (⟨128 * h.val + d.val, by omega⟩ : Fin 1024))) (fun j d => k (ix3 h j d)))
    (fun j => v (ix3 h j (lane (n := 8) (p 1))))

variable (V : Dev nD → Valuation τ sig (Elt Ideal))

abbrev ctxOf (c : Dev nD) : Vec Ideal S2048x1024 .f32 :=
  ctx (V c (Proc.devRef .tc main_v6)) (V c (Proc.devRef .tc main_arg1)) (V c (Proc.devRef .tc main_v12)) (V c (Proc.devRef .tc main_v18))

theorem hd_colAt (t : Fin cfg0.N) (d : Fin 128) : hd (n := 8) (colAt t d) = grid0.coords t 0 := by
  apply Fin.ext; show (128 * (grid0.coords t 0).val + d.val) / 128 = _; omega

theorem lane_colAt (t : Fin cfg0.N) (d : Fin 128) : lane (n := 8) (colAt t d) = d := by
  apply Fin.ext; show (128 * (grid0.coords t 0).val + d.val) % 128 = _; omega

theorem bO_at (c : Dev nD) (t : Fin cfg0.N) (r : Fin 512) (d : Fin 128) :
    bO V c t (ix2 r d) = ctxOf V c (ix2 (qry t r) (colAt t d)) := by
  refine (attnOut_at (grid0.coords t) _ _ _ _ r d).trans ?_
  show attend (512 * (grid0.coords t 1).val + r.val)
      (score (fun i => bX V c t (ix2 r i)) (fun i d => bW V c t (ix2 i d)) (fun j d => bK V c t (ix3 0 j d))) (fun j => bV V c t (ix3 0 j d)) = _
  have hx : ∀ i, bX V c t (ix2 r i) = V c (Proc.devRef .tc main_v6) (ix2 (qry t r) i : S2048x1024.Idx) := fun i => congrArg (V c (Proc.devRef .tc main_v6)) (blk_x t r i)
  have hw : ∀ i d, bW V c t (ix2 i d) = V c (Proc.devRef .tc main_arg1) (ix2 i (colAt t d) : S1024x1024.Idx) := fun i d => congrArg (V c (Proc.devRef .tc main_arg1)) (blk_w t i d)
  have hk : ∀ j d, bK V c t (ix3 0 j d) = V c (Proc.devRef .tc main_v12) (ix3 (grid0.coords t 0) j d : S8x2048x128.Idx) := fun j d => congrArg (V c (Proc.devRef .tc main_v12)) (blk_k t j d)
  have hv : ∀ j d, bV V c t (ix3 0 j d) = V c (Proc.devRef .tc main_v18) (ix3 (grid0.coords t 0) j d : S8x2048x128.Idx) := fun j d => congrArg (V c (Proc.devRef .tc main_v18)) (blk_v t j d)
  simp only [hx, hw, hk, hv]
  show _ = attend (qry t r).val (score (fun i => V c (Proc.devRef .tc main_v6) (ix2 (qry t r) i : S2048x1024.Idx))
      (fun i d' => V c (Proc.devRef .tc main_arg1) (ix2 i (⟨128 * (hd (n := 8) (colAt t d)).val + d'.val, _⟩ : Fin 1024) : S1024x1024.Idx))
      (fun j d' => V c (Proc.devRef .tc main_v12) (ix3 (hd (n := 8) (colAt t d)) j d' : S8x2048x128.Idx)))
    (fun j => V c (Proc.devRef .tc main_v18) (ix3 (hd (n := 8) (colAt t d)) j (lane (n := 8) (colAt t d)) : S8x2048x128.Idx))
  simp only [hd_colAt, lane_colAt]
  rfl

theorem flushed4 (c : Dev nD) (t : Fin cfg0.N) :
    (dat0 V c).flushed 4 t = ((cfg0.win 4).blk t).view.read (Elt Ideal) (ctxOf V c) := by
  funext j
  obtain ⟨r, d, rfl⟩ : ∃ (r : Fin 512) (d : Fin 128), j = (ix2 r d : S512x128.Idx) := ⟨j 0, j 1, eq_ix2 j⟩
  show bO V c t (ix2 r d) = ctxOf V c (((cfg0.win 4).blk t).view.emb (ix2 r d : S512x128.Idx))
  rw [blk_o]
  exact bO_at V c t r d

/-- Some point has each head and each tile of queries. -/
theorem point_of : ∀ (h : Fin 8) (q : Fin 4), ∃ t : Fin cfg0.N, (grid0.coords t 0).val = h.val ∧ (grid0.coords t 1).val = q.val := by decide +kernel

theorem covered4 (i : S2048x1024.Idx) : ∃ t : Fin cfg0.N, (cfg0.win 4).flush t = true ∧ i ∈ ((cfg0.win 4).blk t).view.set := by
  have b0 : (i 0 : ℕ) < 2048 := (i 0).isLt
  have b1 : (i 1 : ℕ) < 1024 := (i 1).isLt
  obtain ⟨t, h0, h1⟩ := point_of ⟨(i 1 : ℕ) / 128, by omega⟩ ⟨(i 0 : ℕ) / 512, by omega⟩
  refine ⟨t, flush0_4 t, ?_⟩
  have h := ((cfg0.win 4).blk t).view.emb_mem_set (ix2 (⟨(i 0 : ℕ) % 512, by omega⟩ : Fin 512) (⟨(i 1 : ℕ) % 128, by omega⟩ : Fin 128) : S512x128.Idx)
  rw [blk_o] at h
  have e : (ix2 (qry t ⟨(i 0 : ℕ) % 512, by omega⟩) (colAt t ⟨(i 1 : ℕ) % 128, by omega⟩) : S2048x1024.Idx) = i := by
    funext a
    apply Fin.ext
    match a with
    | ⟨0, _⟩ => show 512 * (grid0.coords t 1).val + (i 0 : ℕ) % 512 = (i 0 : ℕ); rw [h1]; show 512 * ((i 0 : ℕ) / 512) + _ = _; omega
    | ⟨1, _⟩ => show 128 * (grid0.coords t 0).val + (i 1 : ℕ) % 128 = (i 1 : ℕ); rw [h0]; show 128 * ((i 1 : ℕ) / 128) + _ = _; omega
  rwa [e] at h

theorem arr4 (c : Dev nD) : (dat0 V c).arrAt 4 cfg0.N = ctxOf V c :=
  (dat0 V c).arrAt_eq_of_cover 4 (ctxOf V c) (fun t _ => flushed4 V c t) covered4

/-- The array of the heads' values after the call. -/
theorem Vb_ctx (c : Dev nD) : Vb V c (Proc.devRef .tc main_v19) = ctxOf V c :=
  (Pipeline.afterRegion_arr (dat0 V c) (V c) winFacts0.arr_inj 4).trans (arr4 V c)

end Cert.KernelIdeal.Ring

end
-- ==== Proof.Entry.lean ====
/-
# `Entry`: what the host operations before the calls leave

A device's input is the argument with its leading unit axis dropped; its keys and values are the eight heads of the
device, one after the other, cut out of the whole arrays.
-/
module

public import proofs.«01_k».proof.Proof.Heads
public import Idealize.ShloMosaic.Lib.Claim
public import Idealize.ShloMosaic.Lib.DynamicIndex
public import Idealize.ShloMosaic.Lib.WordCmp

@[expose] public section

noncomputable section

namespace Cert.KernelIdeal.Ring

open Cert.KernelIdeal Cert.KernelIdeal.Gen

open Idealize.ShloMosaic
open Idealize.ShloMosaic.TcCoe
open Idealize.ShloMosaic.ValueIdx

/-- Head `h` of device `c` among all heads. -/
def headOf (c : Dev nD) (h : Fin 8) : Fin 32 := ⟨8 * c.val + h.val, by have : c.val < 4 := c.isLt; omega⟩

theorem slices_heads (c : Dev nD) : S1x2048x32x128.Slices ![0, 0, 8 * c.val, 0] S1x2048x8x128 := by revert c; decide

/-- The device's heads, cut out and turned head first. -/
theorem heads_at (c : Dev nD) (X : Vec Ideal S1x2048x32x128 .f32) (start : Fin 4 → ℤ)
    (h0 : start 0 = 0) (h1 : start 1 = 0) (h2 : start 2 = ((8 * c.val : ℕ) : ℤ)) (h3 : start 3 = 0) (h : Fin 8) (j : Fin 2048) (d : Fin 128) :
    (transpose S8x2048x128 [1, 0, 2] (fun i => shapeCast S2048x8x128 (Host.dynamicSlice S1x2048x8x128 X start sliceFits_S1x2048x32x128_S1x2048x8x128) shapeCasts_S1x2048x8x128_S2048x8x128 i)
      transposes_S2048x8x128_S8x2048x128_1_0_2) (ix3 h j d) = X (ix4 0 j (headOf c h) d) := by
  rw [WordCmp.dynamicSlice_eq_extract S1x2048x8x128 X start _ ![0, 0, 8 * c.val, 0] (slices_heads c) (fun a => by match a with | ⟨0, _⟩ => exact h0 | ⟨1, _⟩ => exact h1 | ⟨2, _⟩ => exact h2 | ⟨3, _⟩ => exact h3)]
  rw [transpose_apply _ _ _ (ix3 h j d) (ix3 j h d : S2048x8x128.Idx) (fun a => by match a with | ⟨0, _⟩ => rfl | ⟨1, _⟩ => rfl | ⟨2, _⟩ => rfl)]
  show shapeCast S2048x8x128 _ _ (ix3 j h d) = _
  rw [shapeCast_1abc_abc_apply]
  refine congrArg X (funext fun a => Fin.ext ?_)
  match a with
  | ⟨0, _⟩ => show 0 + 0 = 0; rfl
  | ⟨1, _⟩ => show 0 + j.val = j.val; omega
  | ⟨2, _⟩ => show 8 * c.val + h.val = 8 * c.val + h.val; rfl
  | ⟨3, _⟩ => show 0 + d.val = d.val; omega

variable (m : (ℓ : Loc nD τ sig) → Buf (Elt Ideal) ℓ)

theorem V1_v6 (c : Dev nD) (r : Fin 2048) (i : Fin 1024) :
    V1 m c (Proc.devRef .tc main_v6) (ix2 r i : S2048x1024.Idx) = m ((c : Thread nD τ).loc main_arg0) (ix3 0 r i : S1x2048x1024.Idx) := by
  have h : V1 m c (Proc.devRef .tc main_v6) = shapeCast S2048x1024 (m ((c : Thread nD τ).loc main_arg0)) shapeCasts_S1x2048x1024_S2048x1024 := by
    show StableHlo.after (hostOps0 c) (V0 m c) _ = _
    after_results_simp
    rfl
  rw [h]
  exact shapeCast_1ab_ab_apply _ _ _ _

theorem V1_v12 (c : Dev nD) (h : Fin 8) (j : Fin 2048) (d : Fin 128) :
    V1 m c (Proc.devRef .tc main_v12) (ix3 h j d : S8x2048x128.Idx) = m ((c : Thread nD τ).loc main_arg2) (ix4 0 j (headOf c h) d : S1x2048x32x128.Idx) := by
  show StableHlo.after (hostOps0 c) (V0 m c) _ _ = _
  after_results_simp
  refine heads_at c (m ((c : Thread nD τ).loc main_arg2)) _ ?_ ?_ ?_ ?_ h j d <;> dsimp only [Matrix.cons_val] <;> after_results_simp
  · rfl
  · rfl
  · revert c; decide
  · rfl

theorem V1_v18 (c : Dev nD) (h : Fin 8) (j : Fin 2048) (d : Fin 128) :
    V1 m c (Proc.devRef .tc main_v18) (ix3 h j d : S8x2048x128.Idx) = m ((c : Thread nD τ).loc main_arg3) (ix4 0 j (headOf c h) d : S1x2048x32x128.Idx) := by
  show StableHlo.after (hostOps0 c) (V0 m c) _ _ = _
  after_results_simp
  refine heads_at c (m ((c : Thread nD τ).loc main_arg3)) _ ?_ ?_ ?_ ?_ h j d <;> dsimp only [Matrix.cons_val] <;> after_results_simp
  · rfl
  · rfl
  · revert c; decide
  · rfl

end Cert.KernelIdeal.Ring

end
-- ==== Proof.KernelValue.lean ====
/-
# `KernelValue`: the result over the extended reals

Each element of the result is the sum, over the devices, of that device's product: the heads' values the device
computed against its rows of the output projection.
-/
module

public import proofs.«01_k».proof.Proof.Kept
public import proofs.«01_k».proof.Proof.Entry
public import Idealize.ShloMosaic.Lib.MatmulPlain

@[expose] public section

noncomputable section

namespace Cert.KernelIdeal.Ring

open Cert.KernelIdeal Cert.KernelIdeal.Gen

open Idealize.ShloMosaic
open Idealize.ShloMosaic.TcCoe
open Idealize.ShloMosaic.ValueIdx
open Cert.Soft
open scoped BigOperators

/-! ## The ring's sum -/

variable (M : Dev nD → Vec Ideal S2048x1024 .f32)

/-- The running sum that reaches `c` holds four devices' chunks. -/
theorem val_three (d : Bool) (c : Dev nD) (i : S512x512.Idx) :
    val M d 3 c i = (blk (M c) d (ch d c 3) i + (blk (M (frm d c)) d (ch d c 3) i
      + (blk (M (frm d (frm d c))) d (ch d c 3) i + blk (M (frm d (frm d (frm d c)))) d (ch d c 3) i)) : EReal) := by
  have h3 : val M d 3 c = addf (F := Ideal) (φ := .f32) (blk (M c) d (ch d c 3)) (val M d 2 (frm d c)) := rfl
  have h2 : val M d 2 (frm d c) = addf (F := Ideal) (φ := .f32) (blk (M (frm d c)) d (ch d (frm d c) 2)) (val M d 1 (frm d (frm d c))) := rfl
  have h1 : val M d 1 (frm d (frm d c)) = addf (F := Ideal) (φ := .f32) (blk (M (frm d (frm d c))) d (ch d (frm d (frm d c)) 1)) (val M d 0 (frm d (frm d (frm d c)))) := rfl
  have h0 : val M d 0 (frm d (frm d (frm d c))) = blk (M (frm d (frm d (frm d c)))) d (ch d (frm d (frm d (frm d c))) 0) := rfl
  rw [h3, h2, h1, h0, ch_frm, ch_frm, ch_frm, ch_frm, ch_frm, ch_frm]
  rfl

/-- The four devices met on the way are all devices. -/
theorem four_sum (f : Dev nD → EReal) (d : Bool) (c : Dev nD) :
    f c + (f (frm d c) + (f (frm d (frm d c)) + f (frm d (frm d (frm d c))))) = ∑ e : Fin 4, f e := by
  rw [Fin.sum_univ_four]
  have h : ∀ (d : Bool) (c : Fin 4), (frm d c, frm d (frm d c), frm d (frm d (frm d c))) = (if d then
      (match c with | 0 => (1, 2, 3) | 1 => (2, 3, 0) | 2 => (3, 0, 1) | 3 => (0, 1, 2) : Fin 4 × Fin 4 × Fin 4) else
      (match c with | 0 => (3, 2, 1) | 1 => (0, 3, 2) | 2 => (1, 0, 3) | 3 => (2, 1, 0))) := by decide
  have hd := h d c
  rw [Prod.mk.injEq, Prod.mk.injEq] at hd
  obtain ⟨e1, e2, e3⟩ := hd
  rw [e3, e2, e1]
  match d, c with
  | true, 0 => show f 0 + (f 1 + (f 2 + f 3)) = _; ac_rfl
  | true, 1 => show f 1 + (f 2 + (f 3 + f 0)) = _; ac_rfl
  | true, 2 => show f 2 + (f 3 + (f 0 + f 1)) = _; ac_rfl
  | true, 3 => show f 3 + (f 0 + (f 1 + f 2)) = _; ac_rfl
  | false, 0 => show f 0 + (f 3 + (f 2 + f 1)) = _; ac_rfl
  | false, 1 => show f 1 + (f 0 + (f 3 + f 2)) = _; ac_rfl
  | false, 2 => show f 2 + (f 1 + (f 0 + f 3)) = _; ac_rfl
  | false, 3 => show f 3 + (f 2 + (f 1 + f 0)) = _; ac_rfl

theorem fin_sum (d : Bool) (q : Fin 4) (i : S512x512.Idx) : fin M d q i = ∑ e : Fin 4, (blk (M e) d q i : EReal) := by
  unfold fin
  have hq : ch d (own d q) 3 = q := by revert d q; decide
  rw [val_three, hq]
  exact four_sum (fun e => blk (M e) d q i) d (own d q)

theorem OUT_sum (i : S2048x1024.Idx) : OUT M i = ∑ e : Fin 4, (M e i : EReal) := by
  unfold OUT
  rw [fin_sum]
  refine Finset.sum_congr rfl fun e _ => ?_
  rw [blk_apply]
  refine congrArg (M e) (funext fun a => Fin.ext ?_)
  have b0 : (i 0 : ℕ) < 2048 := (i 0).isLt
  have b1 : (i 1 : ℕ) < 1024 := (i 1).isLt
  match a with
  | ⟨0, _⟩ =>
    refine (emb0 _ _ _).trans ?_
    show 512 * ((i 0 : ℕ) / 512) + (i 0 : ℕ) % 512 = (i 0 : ℕ)
    omega
  | ⟨1, _⟩ =>
    refine (emb1 _ _ _).trans ?_
    show cond (decide (512 ≤ (i 1 : ℕ))) 512 0 + (i 1 : ℕ) % 512 = (i 1 : ℕ)
    by_cases h : 512 ≤ (i 1 : ℕ)
    · rw [decide_eq_true h, cond_true]; omega
    · rw [decide_eq_false h, cond_false]; omega

/-! ## The products -/

/-- A device's own product, element by element. -/
theorem pay1_apply (X : Vec Ideal S2048x1024 .f32) (W : Vec Ideal S1024x1024 .f32) (r : Fin 2048) (k : Fin 1024) :
    k1_pay1 (F := Ideal) X W (ix2 r k) = ∑ j : Fin 1024, (X (ix2 r j) * W (ix2 j k) : EReal) := by
  unfold k1_pay1
  rw [shapeCast_self, shapeCast_self]
  refine (Ideal.matmul_plain_apply (M := 2048) (K := 1024) (N := 1024) none X W _ r k).trans ?_
  have h0 : (constant (F := Ideal) S2048x1024 .f32 0x00000000#32) (ix2 r k) = (0 : EReal) := by
    show Ideal.ofBits .f32 0x00000000#32 = 0
    simp
  rw [h0, zero_add]

/-! ## The result -/

variable (m : (ℓ : Loc nD τ sig) → Buf (Elt Ideal) ℓ)

theorem ctx_apply (x : Vec Ideal S2048x1024 .f32) (w : Vec Ideal S1024x1024 .f32) (k v : Vec Ideal S8x2048x128 .f32) (q : Fin 2048) (e : Fin 1024) :
    ctx x w k v (ix2 q e) = attend q.val (score (fun i => x (ix2 q i)) (fun i d => w (ix2 i (⟨128 * (hd (n := 8) e).val + d.val, by omega⟩ : Fin 1024)))
      (fun j d => k (ix3 (hd (n := 8) e) j d))) (fun j => v (ix3 (hd (n := 8) e) j (lane (n := 8) e))) := rfl

/-- The heads' values of device `c`, of its arguments as launched. -/
theorem ctx_at (c : Dev nD) (q : Fin 2048) (e : Fin 1024) :
    ctxOf (V1 m) c (ix2 q e) = attend q.val
      (score (fun i => m ((c : Thread nD τ).loc main_arg0) (ix3 0 q i : S1x2048x1024.Idx))
        (fun i d => m ((c : Thread nD τ).loc main_arg1) (ix2 i (⟨128 * (hd (n := 8) e).val + d.val, by omega⟩ : Fin 1024) : S1024x1024.Idx))
        (fun j d => m ((c : Thread nD τ).loc main_arg2) (ix4 0 j (headOf c (hd (n := 8) e)) d : S1x2048x32x128.Idx)))
      (fun j => m ((c : Thread nD τ).loc main_arg3) (ix4 0 j (headOf c (hd (n := 8) e)) (lane (n := 8) e) : S1x2048x32x128.Idx)) := by
  refine (ctx_apply _ _ _ _ q e).trans (congrArg₂ (attend q.val) (congr (congr (congrArg score (funext fun i => ?_))
    (funext fun i => funext fun d => ?_)) (funext fun j => funext fun d => ?_)) (funext fun j => ?_))
  · exact V1_v6 m c q i
  · exact congrFun (V1_of m c main_arg1 (by decide)) _
  · exact V1_v12 m c _ j d
  · exact V1_v18 m c _ j _

/-- Each element of the result. -/
theorem result_at (q : Fin 2048) (n : Fin 1024) :
    (shapeCast S1x2048x1024 (OUT (F := Ideal) (Mv (Vb (V1 m)))) shapeCasts_S2048x1024_S1x2048x1024 : Vec Ideal S1x2048x1024 .f32) (ix3 0 q n)
      = ∑ e : Fin 4, ∑ j : Fin 1024, (ctxOf (V1 m) e (ix2 q j) * m (((e : Dev nD) : Thread nD τ).loc main_arg4) (ix2 j n : S1024x1024.Idx) : EReal) := by
  refine (shapeCast_ab_1ab_apply _ _ _ _ _).trans ?_
  rw [OUT_sum]
  refine Finset.sum_congr rfl fun e _ => ?_
  show k1_pay1 (F := Ideal) (entX (Vb (V1 m)) e) (entW (Vb (V1 m)) e) (ix2 q n) = _
  rw [pay1_apply]
  refine Finset.sum_congr rfl fun j _ => ?_
  have hx : entX (Vb (V1 m)) e = ctxOf (V1 m) e := Vb_ctx (V1 m) e
  have hw : entW (Vb (V1 m)) e = m (((e : Dev nD) : Thread nD τ).loc main_arg4) :=
    (Pipeline.afterRegion_keeps (dat0 (V1 m) e) (V1 m e) winFacts0.arr_inj (fun _ => rfl) main_arg4 (by decide)).trans (V1_of m e main_arg4 (by decide))
  rw [hx, hw]

end Cert.KernelIdeal.Ring

end
-- ==== Proof.RefParts.lean ====
/-
# `RefParts`: the reference's arrays, element by element

The reference's mask, scores, weights, denominators and heads' values as named arrays, and each read at an index.
-/
module

public import proofs.«01_k».proof.Proof.Gen.ReferenceIdeal.Run
public import proofs.«01_k».proof.Proof.Words
public import proofs.«01_k».proof.Proof.Score
public import Idealize.ShloMosaic.Lib.ValueLayout
public import Idealize.ShloMosaic.Lib.KernelVsHost
public import Idealize.ShloMosaic.Lib.IdealHost

@[expose] public section

noncomputable section

namespace Cert.ReferenceIdeal.Parts

open Cert.ReferenceIdeal Cert.ReferenceIdeal.Gen
open Idealize.ShloMosaic
open Idealize.ShloMosaic.TcCoe
open Idealize.ShloMosaic.ValueIdx
open Idealize.ShloMosaic.WordCmp (select_ofBool)
open Cert.Soft
open scoped BigOperators

/-! ## The mask -/

/-- The query's number at each entry, and the key's. -/
def qIx : IVec S2048x2048 32 := broadcastInDim S2048x2048 ![0, 1] bcast_S2048x1_S2048x2048_0_1 (broadcastInDim S2048x1 ![0] bcast_S2048_S2048x1_0 (iotaInDim S2048 32 0))
def kIx : IVec S2048x2048 32 := broadcastInDim S2048x2048 ![0, 1] bcast_S1x2048_S2048x2048_0_1 (broadcastInDim S1x2048 ![1] bcast_S2048_S1x2048_1 (iotaInDim S2048 32 0))
def firstK : IVec S2048x2048 1 := broadcastInDim S2048x2048 ![0, 1] bcast_S1x2048_S2048x2048_0_1 (cmpi .slt (broadcastInDim S1x2048 ![1] bcast_S2048_S1x2048_1 (iotaInDim S2048 32 0)) (broadcastInDim S1x2048 ![] bcast_S_S1x2048 (constantI S_ 32 32#32)))
def firstQ : IVec S2048x2048 1 := broadcastInDim S2048x2048 ![0, 1] bcast_S2048x1_S2048x2048_0_1 (cmpi .slt (broadcastInDim S2048x1 ![0] bcast_S2048_S2048x1_0 (iotaInDim S2048 32 0)) (broadcastInDim S2048x1 ![] bcast_S_S2048x1 (constantI S_ 32 32#32)))

/-- Which keys a query may see. -/
def maskA : IVec S2048x2048 1 := ori (cmpi .sle (absi (subi qIx kIx)) (broadcastInDim S2048x2048 ![] bcast_S_S2048x2048 (constantI S_ 32 128#32))) (ori firstK firstQ)

section
variable {α : Type}

theorem wide_col (x : S2048x1.Idx → α) (q k : Fin 2048) : broadcastInDim S2048x2048 ![0, 1] bcast_S2048x1_S2048x2048_0_1 x (ix2 q k) = x (ix2 q 0) :=
  broadcastInDim_apply _ _ x _ _ (fun a => by match a with | ⟨0, _⟩ => rfl | ⟨1, _⟩ => rfl)
theorem wide_row (x : S1x2048.Idx → α) (q k : Fin 2048) : broadcastInDim S2048x2048 ![0, 1] bcast_S1x2048_S2048x2048_0_1 x (ix2 q k) = x (ix2 0 k) :=
  broadcastInDim_apply _ _ x _ _ (fun a => by match a with | ⟨0, _⟩ => rfl | ⟨1, _⟩ => rfl)
theorem as_col (x : S2048.Idx → α) (q : Fin 2048) : broadcastInDim S2048x1 ![0] bcast_S2048_S2048x1_0 x (ix2 q 0) = x (ix1 q) :=
  broadcastInDim_apply _ _ x _ _ (fun a => by match a with | ⟨0, _⟩ => rfl)
theorem as_row (x : S2048.Idx → α) (k : Fin 2048) : broadcastInDim S1x2048 ![1] bcast_S2048_S1x2048_1 x (ix2 0 k) = x (ix1 k) :=
  broadcastInDim_apply _ _ x _ _ (fun a => by match a with | ⟨0, _⟩ => rfl)

/-- An entry for each head, query and key from one for each query and key. -/
theorem per_pair (x : S2048x2048.Idx → α) (h : Fin 32) (q k : Fin 2048) :
    broadcastInDim S1x32x2048x2048 ![0, 1, 2, 3] bcast_S1x1x2048x2048_S1x32x2048x2048_0_1_2_3 (broadcastInDim S1x1x2048x2048 ![2, 3] bcast_S2048x2048_S1x1x2048x2048_2_3 x) (ix4 0 h q k) = x (ix2 q k) :=
  (broadcastInDim_apply _ _ _ _ (ix4 0 0 q k : S1x1x2048x2048.Idx) (fun a => by match a with | ⟨0, _⟩ => rfl | ⟨1, _⟩ => rfl | ⟨2, _⟩ => rfl | ⟨3, _⟩ => rfl)).trans
    (broadcastInDim_apply _ _ x _ _ (fun a => by match a with | ⟨0, _⟩ => rfl | ⟨1, _⟩ => rfl))

/-- From one for each head and query. -/
theorem per_query (x : S1x32x2048x1.Idx → α) (h : Fin 32) (q k : Fin 2048) :
    broadcastInDim S1x32x2048x2048 ![0, 1, 2, 3] bcast_S1x32x2048x1_S1x32x2048x2048_0_1_2_3 x (ix4 0 h q k) = x (ix4 0 h q 0) :=
  broadcastInDim_apply _ _ _ _ _ (fun a => by match a with | ⟨0, _⟩ => rfl | ⟨1, _⟩ => rfl | ⟨2, _⟩ => rfl | ⟨3, _⟩ => rfl)
theorem kept_axis (x : S1x32x2048.Idx → α) (h : Fin 32) (q : Fin 2048) :
    broadcastInDim S1x32x2048x1 ![0, 1, 2] bcast_S1x32x2048_S1x32x2048x1_0_1_2 x (ix4 0 h q 0) = x (ix3 0 h q) :=
  broadcastInDim_apply _ _ _ _ _ (fun a => by match a with | ⟨0, _⟩ => rfl | ⟨1, _⟩ => rfl | ⟨2, _⟩ => rfl)
theorem row_col (x : S2048.Idx → α) (h : Fin 32) (q : Fin 2048) :
    broadcastInDim S1x32x2048x1 ![0, 1, 2, 3] bcast_S1x1x2048x1_S1x32x2048x1_0_1_2_3 (broadcastInDim S1x1x2048x1 ![2] bcast_S2048_S1x1x2048x1_2 x) (ix4 0 h q 0) = x (ix1 q) :=
  (broadcastInDim_apply _ _ _ _ (ix4 0 0 q 0 : S1x1x2048x1.Idx) (fun a => by match a with | ⟨0, _⟩ => rfl | ⟨1, _⟩ => rfl | ⟨2, _⟩ => rfl | ⟨3, _⟩ => rfl)).trans
    (broadcastInDim_apply _ _ x _ _ (fun a => by match a with | ⟨0, _⟩ => rfl))
theorem row_all (x : S2048.Idx → α) (h : Fin 32) (q k : Fin 2048) :
    broadcastInDim S1x32x2048x2048 ![0, 1, 2, 3] bcast_S1x1x2048x1_S1x32x2048x2048_0_1_2_3 (broadcastInDim S1x1x2048x1 ![2] bcast_S2048_S1x1x2048x1_2 x) (ix4 0 h q k) = x (ix1 q) :=
  (broadcastInDim_apply _ _ _ _ (ix4 0 0 q 0 : S1x1x2048x1.Idx) (fun a => by match a with | ⟨0, _⟩ => rfl | ⟨1, _⟩ => rfl | ⟨2, _⟩ => rfl | ⟨3, _⟩ => rfl)).trans
    (broadcastInDim_apply _ _ x _ _ (fun a => by match a with | ⟨0, _⟩ => rfl))

end

theorem qIx_at (q k : Fin 2048) : qIx (ix2 q k) = BitVec.ofNat 32 q.val := (wide_col _ q k).trans (as_col _ q)
theorem kIx_at (q k : Fin 2048) : kIx (ix2 q k) = BitVec.ofNat 32 k.val := (wide_row _ q k).trans (as_row _ k)
theorem firstK_at (q k : Fin 2048) : firstK (ix2 q k) = IntOp.cmpi .slt (BitVec.ofNat 32 k.val) 32#32 := by
  unfold firstK
  rw [wide_row]
  show IntOp.cmpi .slt (broadcastInDim S1x2048 ![1] bcast_S2048_S1x2048_1 (iotaInDim S2048 32 0) (ix2 0 k)) (broadcastInDim S1x2048 ![] bcast_S_S1x2048 (constantI S_ 32 32#32) (ix2 0 k)) = _
  rw [as_row, broadcastInDim_scalar_apply]
  rfl
theorem firstQ_at (q k : Fin 2048) : firstQ (ix2 q k) = IntOp.cmpi .slt (BitVec.ofNat 32 q.val) 32#32 := by
  unfold firstQ
  rw [wide_col]
  show IntOp.cmpi .slt (broadcastInDim S2048x1 ![0] bcast_S2048_S2048x1_0 (iotaInDim S2048 32 0) (ix2 q 0)) (broadcastInDim S2048x1 ![] bcast_S_S2048x1 (constantI S_ 32 32#32) (ix2 q 0)) = _
  rw [as_col, broadcastInDim_scalar_apply]
  rfl

theorem maskA_at (q k : Fin 2048) : maskA (ix2 q k) = BitVec.ofBool (decide (allowed q.val k.val)) := by
  rw [← mask_bit' q.val k.val q.isLt k.isLt]
  show IntOp.ori (IntOp.cmpi .sle (IntOp.absi (IntOp.subi (qIx (ix2 q k)) (kIx (ix2 q k)))) (broadcastInDim S2048x2048 ![] bcast_S_S2048x2048 (constantI S_ 32 128#32) (ix2 q k)))
    (IntOp.ori (firstK (ix2 q k)) (firstQ (ix2 q k))) = _
  rw [qIx_at, kIx_at, firstK_at, firstQ_at, broadcastInDim_scalar_apply]
  rfl

/-- Whether a query may see any key. -/
def keepA : IVec S2048 1 := Host.reduce IntOp.ori maskA (constantI S_ 1 0#1) reducesTo_S2048x2048_S2048_d1 h_S_

/-- A left fold by `or` that starts at 1, or meets a 1, is 1. -/
theorem fold_or {ι : Type} (f : ι → BitVec 1) : ∀ (l : List ι) (init : BitVec 1), (init = 1#1 ∨ ∃ n ∈ l, f n = 1#1) → l.foldl (fun r n => IntOp.ori r (f n)) init = 1#1
  | [], init, h => h.elim id (fun ⟨_, hn, _⟩ => nomatch hn)
  | a :: l, init, h => by
    refine fold_or f l _ ?_
    rcases h with h | ⟨n, hn, e⟩
    · left; show IntOp.ori init (f a) = 1#1; rw [h]; generalize f a = y; revert y; decide
    · rcases List.mem_cons.1 hn with rfl | hn
      · left; show IntOp.ori init (f n) = 1#1; rw [e]; revert init; decide
      · exact .inr ⟨n, hn, e⟩

/-- Every query may see itself. -/
theorem keepA_at (q : Fin 2048) : keepA (ix1 q) = 1#1 := by
  unfold keepA
  rw [Host.reduce_eq_foldl]
  refine fold_or maskA _ _ (.inr ⟨ix2 q q, ?_, ?_⟩)
  · rw [List.mem_filter]
    refine ⟨List.mem_map.2 ⟨S2048x2048.rowMajor (ix2 q q), List.mem_finRange _, Equiv.symm_apply_apply _ _⟩, ?_⟩
    refine decide_eq_true ?_
    funext a
    match a with
    | ⟨0, _⟩ => rfl
  · rw [maskA_at]
    have : allowed q.val q.val := .inl ⟨by omega, by omega⟩
    rw [decide_eq_true this]; rfl

/-! ## The scores -/

variable (x : FVec Ideal S1x2048x1024 .f32) (w : FVec Ideal S1024x4096 .f32) (k v : FVec Ideal S1x2048x32x128 .f32)

/-- Column `d` of head `h`. -/
def col (h : Fin 32) (d : Fin 128) : Fin 4096 := ⟨128 * h.val + d.val, by omega⟩

theorem proj_at (q : Fin 2048) (e : Fin 4096) :
    Host.dotGeneral (F := Ideal) (φ₁ := .f32) (φ₂ := .f32) dot_S1x2048x1024_S1024x4096_S1x2048x4096_2_0_01_1_n_n none x w (ix3 0 q e) = (∑ i : Fin 1024, x (ix3 0 q i) * w (ix2 i e) : EReal) := by
  simp only [Host.dotGeneral]
  rw [Ideal.dotGeneral_apply, ← Equiv.sum_comp (contrEquiv1 dot_S1x2048x1024_S1024x4096_S1x2048x4096_2_0_01_1_n_n 1024 rfl rfl).symm]
  refine Finset.sum_congr rfl fun i _ => ?_
  have hk := contrEquiv1_symm_val dot_S1x2048x1024_S1024x4096_S1x2048x4096_2_0_01_1_n_n 1024 rfl rfl i
  refine congrArg₂ (· * ·) (congrArg x ?_) (congrArg w ?_) <;> funext a <;> apply Fin.ext
  · match a with
    | ⟨0, _⟩ => rfl
    | ⟨1, _⟩ => rfl
    | ⟨2, _⟩ => exact hk
  · match a with
    | ⟨0, _⟩ => exact hk
    | ⟨1, _⟩ => rfl

theorem heads_cast (y : FVec Ideal S1x2048x4096 .f32) (q : Fin 2048) (h : Fin 32) (d : Fin 128) :
    shapeCast S1x2048x32x128 y shapeCasts_S1x2048x4096_S1x2048x32x128 (ix4 0 q h d) = y (ix3 0 q (col h d)) := by
  refine shapeCast_apply _ _ _ _ ?_
  rw [Shape.rowMajor_val_three, Shape.rowMajor_val_four]
  show (0 * 2048 + q.val) * 4096 + (128 * h.val + d.val) = ((0 * 2048 + q.val) * 32 + h.val) * 128 + d.val
  omega

/-- The projected input, head by head. -/
def projA : FVec Ideal S1x2048x32x128 .f32 := shapeCast _ (Host.dotGeneral (F := Ideal) (φ₁ := .f32) (φ₂ := .f32) dot_S1x2048x1024_S1024x4096_S1x2048x4096_2_0_01_1_n_n none x w) shapeCasts_S1x2048x4096_S1x2048x32x128

theorem projA_at (q : Fin 2048) (h : Fin 32) (d : Fin 128) : projA x w (ix4 0 q h d) = (∑ i : Fin 1024, x (ix3 0 q i) * w (ix2 i (col h d)) : EReal) :=
  (heads_cast _ q h d).trans (proj_at x w q (col h d))

theorem dot_keys (y : FVec Ideal S1x2048x32x128 .f32) (h : Fin 32) (q j : Fin 2048) :
    Host.dotGeneral (F := Ideal) (φ₁ := .f32) (φ₂ := .f32) dot_S1x2048x32x128_S1x2048x32x128_S1x32x2048x2048_3_3_1_1_02_02 none y k (ix4 0 h q j) = (∑ d : Fin 128, y (ix4 0 q h d) * k (ix4 0 j h d) : EReal) := by
  simp only [Host.dotGeneral]
  rw [Ideal.dotGeneral_apply, ← Equiv.sum_comp (contrEquiv1 dot_S1x2048x32x128_S1x2048x32x128_S1x32x2048x2048_3_3_1_1_02_02 128 rfl rfl).symm]
  refine Finset.sum_congr rfl fun i _ => ?_
  have hk := contrEquiv1_symm_val dot_S1x2048x32x128_S1x2048x32x128_S1x32x2048x2048_3_3_1_1_02_02 128 rfl rfl i
  refine congrArg₂ (· * ·) (congrArg y ?_) (congrArg k ?_) <;> funext a <;> apply Fin.ext
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => exact hk

/-- The scores, −∞ where the mask says no. -/
def scoreA : FVec Ideal S1x32x2048x2048 .f32 :=
  select (broadcastInDim S1x32x2048x2048 ![0, 1, 2, 3] bcast_S1x1x2048x2048_S1x32x2048x2048_0_1_2_3 (broadcastInDim S1x1x2048x2048 ![2, 3] bcast_S2048x2048_S1x1x2048x2048_2_3 maskA))
    (mulf (Host.dotGeneral (F := Ideal) (φ₁ := .f32) (φ₂ := .f32) dot_S1x2048x32x128_S1x2048x32x128_S1x32x2048x2048_3_3_1_1_02_02 none (projA x w) k)
      (broadcastInDim S1x32x2048x2048 ![] bcast_S_S1x32x2048x2048 (constant (F := Ideal) S_ .f32 0x3DB504F3#32)))
    (broadcastInDim S1x32x2048x2048 ![] bcast_S_S1x32x2048x2048 (id (constant (F := Ideal) S_ .f32 0xFF800000#32)))

/-- The reference's score of a query against each key of a head. -/
abbrev sc (h : Fin 32) (q : Fin 2048) : Fin 2048 → EReal :=
  score (fun i => x (ix3 0 q i)) (fun i d => w (ix2 i (col h d))) (fun j d => k (ix4 0 j h d))

theorem bot_word : Ideal.ofBits .f32 0xFF800000#32 = ⊥ := by simp [Ideal.ofBits, Ideal.ieee]

theorem scoreA_at (h : Fin 32) (q j : Fin 2048) :
    scoreA x w k (ix4 0 h q j) = masked (fun j : Fin 2048 => allowed q.val j.val) (sc x w k h q) j := by
  show Scalar.select (broadcastInDim S1x32x2048x2048 ![0, 1, 2, 3] bcast_S1x1x2048x2048_S1x32x2048x2048_0_1_2_3 (broadcastInDim S1x1x2048x2048 ![2, 3] bcast_S2048x2048_S1x1x2048x2048_2_3 maskA) (ix4 0 h q j))
    (Host.dotGeneral (F := Ideal) (φ₁ := .f32) (φ₂ := .f32) dot_S1x2048x32x128_S1x2048x32x128_S1x32x2048x2048_3_3_1_1_02_02 none (projA x w) k (ix4 0 h q j)
      * broadcastInDim S1x32x2048x2048 ![] bcast_S_S1x32x2048x2048 (constant (F := Ideal) S_ .f32 0x3DB504F3#32) (ix4 0 h q j) : EReal)
    (broadcastInDim S1x32x2048x2048 ![] bcast_S_S1x32x2048x2048 (id (constant (F := Ideal) S_ .f32 0xFF800000#32)) (ix4 0 h q j)) = _
  rw [per_pair, maskA_at, dot_keys, broadcastInDim_scalar_apply, broadcastInDim_scalar_apply]
  have e1 : (constant (F := Ideal) S_ .f32 0x3DB504F3#32) ix0 = scale := rfl
  have e2 : (id (constant (F := Ideal) S_ .f32 0xFF800000#32)) ix0 = (⊥ : EReal) := bot_word
  rw [e1, e2]
  have e3 : (∑ d : Fin 128, projA x w (ix4 0 q h d) * k (ix4 0 j h d) : EReal) * scale = sc x w k h q j := by
    unfold sc score
    simp only [projA_at]
  rw [e3]
  unfold masked
  by_cases hm : allowed q.val j.val
  · rw [decide_eq_true hm, if_pos hm]; rfl
  · rw [decide_eq_false hm, if_neg hm]; rfl

/-! ## The weights -/

def topA (s : FVec Ideal S1x32x2048x2048 .f32) : FVec Ideal S1x32x2048 .f32 := Host.reduce (FloatOps.maximumf (F := Ideal) (φ := .f32)) s (constant (F := Ideal) S_ .f32 0xFF800000#32) reducesTo_S1x32x2048x2048_S1x32x2048_d3 h_S_

theorem reduces_d3 : Shape.Reduces S1x32x2048x2048 [3] S1x32x2048 := by decide

theorem lift_d3 (h : Fin 32) (q j : Fin 2048) : reduces_d3.lift (ix3 0 h q) j = (ix4 0 h q j : S1x32x2048x2048.Idx) := by
  funext a; apply Fin.ext
  match a with
  | ⟨0, _⟩ => rfl
  | ⟨1, _⟩ => rfl
  | ⟨2, _⟩ => rfl
  | ⟨3, _⟩ => rfl

theorem topA_at (s : FVec Ideal S1x32x2048x2048 .f32) (h : Fin 32) (q : Fin 2048) : topA s (ix3 0 h q) = peak fun j : Fin 2048 => s (ix4 0 h q j) := by
  unfold topA
  rw [hostReduce_maximumf_eq_multiReduction (F := Ideal) (φ := .f32) s 0xFF800000#32 _ _ reduces_d3 (.inl rfl) rfl]
  refine (Ideal.multiReduction_maximumf_single s _ reduces_d3 _ _ (ix3 0 h q)).trans ?_
  rw [← peak_eq_fold]
  have h0 : (FloatOps.ofBits (F := Ideal) .f32 0xFF800000#32 : EReal) = ⊥ := bot_word
  rw [h0]
  exact congrArg (fun f => Finset.fold max (⊥ : EReal) f (Finset.univ : Finset (Fin 2048))) (funext fun j => congrArg s (lift_d3 h q j))

def weightA (s : FVec Ideal S1x32x2048x2048 .f32) : FVec Ideal S1x32x2048x2048 .f32 :=
  Host.exp (subf s (broadcastInDim S1x32x2048x2048 ![0, 1, 2, 3] bcast_S1x32x2048x1_S1x32x2048x2048_0_1_2_3 (broadcastInDim S1x32x2048x1 ![0, 1, 2] bcast_S1x32x2048_S1x32x2048x1_0_1_2 (topA s))))

theorem weightA_at (s : FVec Ideal S1x32x2048x2048 .f32) (h : Fin 32) (q j : Fin 2048) :
    weightA s (ix4 0 h q j) = wt (fun j : Fin 2048 => s (ix4 0 h q j)) j := by
  show Ideal.exp (s (ix4 0 h q j) - broadcastInDim S1x32x2048x2048 ![0, 1, 2, 3] bcast_S1x32x2048x1_S1x32x2048x2048_0_1_2_3 (broadcastInDim S1x32x2048x1 ![0, 1, 2] bcast_S1x32x2048_S1x32x2048x1_0_1_2 (topA s)) (ix4 0 h q j) : EReal) = _
  rw [per_query, kept_axis, topA_at]
  rfl

def sumA (u : FVec Ideal S1x32x2048x2048 .f32) : FVec Ideal S1x32x2048 .f32 := Host.reduceAdd u (constant (F := Ideal) S_ .f32 0x00000000#32) reducesTo_S1x32x2048x2048_S1x32x2048_d3 h_S_

theorem sumA_at (u : FVec Ideal S1x32x2048x2048 .f32) (h : Fin 32) (q : Fin 2048) : sumA u (ix3 0 h q) = (∑ j : Fin 2048, u (ix4 0 h q j) : EReal) := by
  unfold sumA
  rw [hostReduceAdd_apply (φ := .f32) u _ _ _ (ix3 0 h q), Ideal.hostReduceAdd_single _ reduces_d3]
  have h0 : (constant (F := Ideal) S_ .f32 0x00000000#32) (Shape.Idx.first h_S_) = (0 : EReal) := by
    show Ideal.ofBits .f32 0x00000000#32 = 0
    simp
  rw [h0, zero_add]
  exact Finset.sum_congr rfl fun j _ => congrArg u (lift_d3 h q j)

theorem select_true {s : Shape} {α : Type} (c : IVec s 1) (a b : s.Idx → α) (i : s.Idx) (h : c i = 1#1) : select c a b i = a i := by
  show Scalar.select (c i) (a i) (b i) = a i
  rw [h]; rfl

/-- The denominators. -/
def denA (u : FVec Ideal S1x32x2048x2048 .f32) : FVec Ideal S1x32x2048x1 .f32 :=
  select (broadcastInDim S1x32x2048x1 ![0, 1, 2, 3] bcast_S1x1x2048x1_S1x32x2048x1_0_1_2_3 (broadcastInDim S1x1x2048x1 ![2] bcast_S2048_S1x1x2048x1_2 keepA))
    (broadcastInDim S1x32x2048x1 ![0, 1, 2] bcast_S1x32x2048_S1x32x2048x1_0_1_2 (sumA u))
    (broadcastInDim S1x32x2048x1 ![] bcast_S_S1x32x2048x1 (id (constant (F := Ideal) S_ .f32 0x3F800000#32)))

theorem denA_at (u : FVec Ideal S1x32x2048x2048 .f32) (h : Fin 32) (q : Fin 2048) : denA u (ix4 0 h q 0) = (∑ j : Fin 2048, u (ix4 0 h q j) : EReal) := by
  unfold denA
  rw [select_true _ _ _ _ ((row_col keepA h q).trans (keepA_at q)), kept_axis, sumA_at]

/-- The normalised weights. -/
def probA (u : FVec Ideal S1x32x2048x2048 .f32) : FVec Ideal S1x32x2048x2048 .f32 :=
  select (broadcastInDim S1x32x2048x2048 ![0, 1, 2, 3] bcast_S1x1x2048x1_S1x32x2048x2048_0_1_2_3 (broadcastInDim S1x1x2048x1 ![2] bcast_S2048_S1x1x2048x1_2 keepA))
    (Host.divf u (broadcastInDim S1x32x2048x2048 ![0, 1, 2, 3] bcast_S1x32x2048x1_S1x32x2048x2048_0_1_2_3 (denA u)))
    (broadcastInDim S1x32x2048x2048 ![] bcast_S_S1x32x2048x2048 (id (constant (F := Ideal) S_ .f32 0x00000000#32)))

theorem probA_at (u : FVec Ideal S1x32x2048x2048 .f32) (h : Fin 32) (q j : Fin 2048) :
    probA u (ix4 0 h q j) = Ideal.div (u (ix4 0 h q j)) (∑ j : Fin 2048, u (ix4 0 h q j) : EReal) := by
  unfold probA
  rw [select_true _ _ _ _ ((row_all keepA h q j).trans (keepA_at q))]
  rw [hostDivf_apply]
  rw [per_query, denA_at]

/-! ## The heads' values and the result -/

theorem dot_values (p : FVec Ideal S1x32x2048x2048 .f32) (h : Fin 32) (d : Fin 128) (q : Fin 2048) :
    Host.dotGeneral (F := Ideal) (φ₁ := .f32) (φ₂ := .f32) dot_S1x2048x32x128_S1x32x2048x2048_S1x32x128x2048_1_3_3_2_02_01 none v p (ix4 0 h d q) = (∑ j : Fin 2048, v (ix4 0 j h d) * p (ix4 0 h q j) : EReal) := by
  simp only [Host.dotGeneral]
  rw [Ideal.dotGeneral_apply, ← Equiv.sum_comp (contrEquiv1 dot_S1x2048x32x128_S1x32x2048x2048_S1x32x128x2048_1_3_3_2_02_01 2048 rfl rfl).symm]
  refine Finset.sum_congr rfl fun i _ => ?_
  have hk := contrEquiv1_symm_val dot_S1x2048x32x128_S1x32x2048x2048_S1x32x128x2048_1_3_3_2_02_01 2048 rfl rfl i
  refine congrArg₂ (· * ·) (congrArg v ?_) (congrArg p ?_) <;> funext a <;> apply Fin.ext
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-- The heads' values side by side. -/
def ctxA (p : FVec Ideal S1x32x2048x2048 .f32) : FVec Ideal S1x2048x4096 .f32 :=
  shapeCast _ (transpose S1x2048x32x128 [0, 3, 1, 2] (Host.dotGeneral (F := Ideal) (φ₁ := .f32) (φ₂ := .f32) dot_S1x2048x32x128_S1x32x2048x2048_S1x32x128x2048_1_3_3_2_02_01 none v p)
    transposes_S1x32x128x2048_S1x2048x32x128_0_3_1_2) shapeCasts_S1x2048x32x128_S1x2048x4096

theorem ctxA_at (p : FVec Ideal S1x32x2048x2048 .f32) (q : Fin 2048) (e : Fin 4096) :
    ctxA v p (ix3 0 q e) = (∑ j : Fin 2048, v (ix4 0 j (hd (n := 32) e) (lane (n := 32) e)) * p (ix4 0 (hd (n := 32) e) q j) : EReal) := by
  unfold ctxA
  rw [shapeCast_apply _ _ _ (ix4 0 q (hd (n := 32) e) (lane (n := 32) e) : S1x2048x32x128.Idx) (by
    rw [Shape.rowMajor_val_three, Shape.rowMajor_val_four]
    show ((0 * 2048 + q.val) * 32 + e.val / 128) * 128 + e.val % 128 = (0 * 2048 + q.val) * 4096 + e.val
    omega)]
  rw [transpose_apply _ _ _ _ (ix4 0 (hd (n := 32) e) (lane (n := 32) e) q : S1x32x128x2048.Idx) (fun a => by match a with | ⟨0, _⟩ => rfl | ⟨1, _⟩ => rfl | ⟨2, _⟩ => rfl | ⟨3, _⟩ => rfl)]
  exact dot_values v p _ _ q

theorem dot_out (y : FVec Ideal S1x2048x4096 .f32) (o : FVec Ideal S4096x1024 .f32) (q : Fin 2048) (n : Fin 1024) :
    Host.dotGeneral (F := Ideal) (φ₁ := .f32) (φ₂ := .f32) dot_S1x2048x4096_S4096x1024_S1x2048x1024_2_0_01_1_n_n none y o (ix3 0 q n) = (∑ e : Fin 4096, y (ix3 0 q e) * o (ix2 e n) : EReal) := by
  simp only [Host.dotGeneral]
  rw [Ideal.dotGeneral_apply, ← Equiv.sum_comp (contrEquiv1 dot_S1x2048x4096_S4096x1024_S1x2048x1024_2_0_01_1_n_n 4096 rfl rfl).symm]
  refine Finset.sum_congr rfl fun i _ => ?_
  have hk := contrEquiv1_symm_val dot_S1x2048x4096_S4096x1024_S1x2048x1024_2_0_01_1_n_n 4096 rfl rfl i
  refine congrArg₂ (· * ·) (congrArg y ?_) (congrArg o ?_) <;> funext a <;> apply Fin.ext
  · match a with
    | ⟨0, _⟩ => rfl
    | ⟨1, _⟩ => rfl
    | ⟨2, _⟩ => exact hk
  · match a with
    | ⟨0, _⟩ => exact hk
    | ⟨1, _⟩ => rfl

end Cert.ReferenceIdeal.Parts

end
-- ==== Proof.RefValue.lean ====
/-
# `RefValue`: the reference's result, element by element

Over real inputs the normalised weights against the values are the masked softmax's row, so the result at a query and a
column is the heads' rows against the output projection.
-/
module

public import proofs.«01_k».proof.Proof.RefParts

@[expose] public section

noncomputable section

namespace Cert.ReferenceIdeal.Parts

open Cert.ReferenceIdeal Cert.ReferenceIdeal.Gen
open Idealize.ShloMosaic
open Idealize.ShloMosaic.TcCoe
open Idealize.ShloMosaic.ValueIdx
open Cert.Soft
open scoped BigOperators

variable (x : FVec Ideal S1x2048x1024 .f32) (w : FVec Ideal S1024x4096 .f32) (k v : FVec Ideal S1x2048x32x128 .f32) (o : FVec Ideal S4096x1024 .f32)

/-- A head's value at a query. -/
theorem head_at (hx : ∀ i, IsReal (x i)) (hw : ∀ i, IsReal (w i)) (hk : ∀ i, IsReal (k i)) (q : Fin 2048) (e : Fin 4096) :
    ctxA v (probA (weightA (scoreA x w k))) (ix3 0 q e)
      = attend q.val (sc x w k (hd (n := 32) e) q) (fun j => v (ix4 0 j (hd (n := 32) e) (lane (n := 32) e))) := by
  rw [ctxA_at]
  have hu : ∀ j : Fin 2048, weightA (scoreA x w k) (ix4 0 (hd (n := 32) e) q j)
      = wt (masked (fun j : Fin 2048 => allowed q.val j.val) (sc x w k (hd (n := 32) e) q)) j := fun j => by
    rw [weightA_at]
    exact congrArg (wt · j) (funext fun j => scoreA_at x w k _ q j)
  simp only [probA_at, hu]
  refine row_normalised (fun j : Fin 2048 => allowed q.val j.val) (sc x w k (hd (n := 32) e) q) ⟨q, .inl ⟨by omega, by omega⟩⟩ (fun j => ?_) _
  exact score_real (fun i => hx _) (fun i d => hw _) (fun j d => hk _) j

variable (m : (ℓ : Loc nD τ sig) → Buf (Elt Ideal) ℓ)

set_option maxRecDepth 8192 in
theorem res_eq (c : Dev nD) : Value.res_main_v42 m c
    = Host.dotGeneral (F := Ideal) (φ₁ := .f32) (φ₂ := .f32) dot_S1x2048x4096_S4096x1024_S1x2048x1024_2_0_01_1_n_n none
      (ctxA (m ((c.tc : Thread nD τ).loc main_arg3)) (probA (weightA (scoreA (m ((c.tc : Thread nD τ).loc main_arg0)) (m ((c.tc : Thread nD τ).loc main_arg1)) (m ((c.tc : Thread nD τ).loc main_arg2))))))
      (m ((c.tc : Thread nD τ).loc main_arg4)) := by
  unfold Value.res_main_v42
  rfl

theorem res_at (c : Dev nD)
    (hx : ∀ i, IsReal (m ((c.tc : Thread nD τ).loc main_arg0) i)) (hw : ∀ i, IsReal (m ((c.tc : Thread nD τ).loc main_arg1) i))
    (hk : ∀ i, IsReal (m ((c.tc : Thread nD τ).loc main_arg2) i)) (q : Fin 2048) (n : Fin 1024) :
    Value.res_main_v42 m c (ix3 0 q n : S1x2048x1024.Idx) = (∑ e : Fin 4096,
      attend q.val (sc (m ((c.tc : Thread nD τ).loc main_arg0)) (m ((c.tc : Thread nD τ).loc main_arg1)) (m ((c.tc : Thread nD τ).loc main_arg2)) (hd (n := 32) e) q)
        (fun j => m ((c.tc : Thread nD τ).loc main_arg3) (ix4 0 j (hd (n := 32) e) (lane (n := 32) e) : S1x2048x32x128.Idx))
      * m ((c.tc : Thread nD τ).loc main_arg4) (ix2 e n : S4096x1024.Idx) : EReal) := by
  rw [res_eq]
  refine (dot_out _ _ q n).trans (Finset.sum_congr rfl fun e _ => ?_)
  exact congrArg (· * _) (head_at _ _ _ _ hx hw hk q e)

end Cert.ReferenceIdeal.Parts

end
-- ==== Proof.Match.lean ====
/-
# `Match`: the program's result is the reference's

The devices' heads are the reference's heads in order, and their rows of the output projection its rows; where the
scores' inputs are finite both results are one sum.
-/
module

public import proofs.«01_k».proof.Pre_finite_KernelIdeal
public import proofs.«01_k».proof.Proof.Gen.Pre_finite_KernelIdeal
public import proofs.«01_k».proof.Proof.KernelValue
public import proofs.«01_k».proof.Proof.RefValue
public import Idealize.ShloMosaic.Lib.Layout
public import Idealize.ShloMosaic.Lib.ReduceAll

@[expose] public section

noncomputable section

namespace Cert.Match

open Idealize.ShloMosaic
open Idealize.ShloMosaic.TcCoe
open Idealize.ShloMosaic.ValueIdx
open Cert.Soft
open scoped BigOperators

/-! ## The precondition -/

/-- A magnitude below +∞ is a real number's. -/
theorem real_of_lt {a : EReal} (h : FloatOps.cmpf (F := Ideal) (φ := .f32) .olt (FloatOps.hostAbsf (F := Ideal) (φ := .f32) a) (FloatOps.ofBits (F := Ideal) .f32 0x7F800000#32) = 1#1) : IsReal a := by
  have htop : Ideal.ofBits .f32 0x7F800000#32 = ⊤ := by simp [Ideal.ofBits, Ideal.ieee]
  have h' : Ideal.cmp .olt (max a (-a)) (Ideal.ofBits .f32 0x7F800000#32) = 1#1 := h
  rw [htop] at h'
  refine ⟨fun e => ?_, fun e => ?_⟩ <;> subst e <;> simp [Ideal.cmp] at h'

variable (x : FVec Ideal ⟨3, ![1, 2048, 1024]⟩ .f32) (w : FVec Ideal ⟨2, ![1024, 1024]⟩ .f32) (k v : FVec Ideal ⟨4, ![1, 2048, 32, 128]⟩ .f32) (o : FVec Ideal ⟨2, ![1024, 1024]⟩ .f32)

open Cert.Pre_finite_KernelIdeal Cert.Pre_finite_KernelIdeal.Facts in
theorem finite_all [Facts] (h : Cert.Pre_finite_KernelIdeal.fn (F := Ideal) x w k v o = fun _ => 1#1) :
    (∀ i, IsReal (x i)) ∧ (∀ i, IsReal (w i)) ∧ (∀ i, IsReal (k i)) := by
  have h0 := congrFun h ix0
  have h1 : IntOp.andi (IntOp.andi (Host.reduce IntOp.andi (cmpf .olt (Host.absf x) (broadcastInDim S1x2048x1024 ![] bcast_S_S1x2048x1024 (constant (F := Ideal) S_ .f32 0x7F800000#32))) (constantI S_ 1 1#1) reducesTo_S1x2048x1024_S_d0_1_2 h_S_ ix0)
      (Host.reduce IntOp.andi (cmpf .olt (Host.absf w) (broadcastInDim S1024x1024 ![] bcast_S_S1024x1024 (constant (F := Ideal) S_ .f32 0x7F800000#32))) (constantI S_ 1 1#1) reducesTo_S1024x1024_S_d0_1 h_S_ ix0))
      (Host.reduce IntOp.andi (cmpf .olt (Host.absf k) (broadcastInDim S1x2048x32x128 ![] bcast_S_S1x2048x32x128 (constant (F := Ideal) S_ .f32 0x7F800000#32))) (constantI S_ 1 1#1) reducesTo_S1x2048x32x128_S_d0_1_2_3 h_S_ ix0) = 1#1 := h0
  obtain ⟨h2, hk⟩ := IntOp.andi_eq_one.1 h1
  obtain ⟨hx, hw⟩ := IntOp.andi_eq_one.1 h2
  haveI : Subsingleton S_.Idx := ⟨fun a b => funext fun i => i.elim0⟩
  refine ⟨fun i => real_of_lt ?_, fun i => real_of_lt ?_, fun i => real_of_lt ?_⟩
  · have e := Host.reduce_andi_all _ _ _ _ ix0 hx i
    refine Eq.trans ?_ e
    show _ = FloatOps.cmpf .olt (FloatOps.hostAbsf (x i)) (broadcastInDim S1x2048x1024 ![] bcast_S_S1x2048x1024 (constant (F := Ideal) S_ .f32 0x7F800000#32) i)
    rw [broadcastInDim_scalar_apply]; rfl
  · have e := Host.reduce_andi_all _ _ _ _ ix0 hw i
    refine Eq.trans ?_ e
    show _ = FloatOps.cmpf .olt (FloatOps.hostAbsf (w i)) (broadcastInDim S1024x1024 ![] bcast_S_S1024x1024 (constant (F := Ideal) S_ .f32 0x7F800000#32) i)
    rw [broadcastInDim_scalar_apply]; rfl
  · have e := Host.reduce_andi_all _ _ _ _ ix0 hk i
    refine Eq.trans ?_ e
    show _ = FloatOps.cmpf .olt (FloatOps.hostAbsf (k i)) (broadcastInDim S1x2048x32x128 ![] bcast_S_S1x2048x32x128 (constant (F := Ideal) S_ .f32 0x7F800000#32) i)
    rw [broadcastInDim_scalar_apply]; rfl

/-! ## Blocks of the whole arrays -/

/-- Column `j` of device `e`'s block is column `1024 e + j` of the whole. -/
def whole (e : Fin 4) (j : Fin 1024) : Fin 4096 := ⟨e.val * 1024 + j.val, by omega⟩

theorem block_cols (A : FVec Ideal ⟨2, ![1024, 4096]⟩ .f32) (e : Fin 4) (i j : Fin 1024) :
    (Layout.block ⟨2, ![1024, 1024]⟩ ⟨2, ![1024, 4096]⟩ 1 4 e A) (ix2 i j) = A (ix2 i (whole e j)) := by
  rw [Layout.block_apply]
  refine congrArg A (funext fun a => Fin.ext ?_)
  match a with
  | ⟨0, _⟩ => rfl
  | ⟨1, _⟩ => rfl

theorem block_rows (A : FVec Ideal ⟨2, ![4096, 1024]⟩ .f32) (e : Fin 4) (i j : Fin 1024) :
    (Layout.block ⟨2, ![1024, 1024]⟩ ⟨2, ![4096, 1024]⟩ 0 4 e A) (ix2 i j) = A (ix2 (whole e i) j) := by
  rw [Layout.block_apply]
  refine congrArg A (funext fun a => Fin.ext ?_)
  match a with
  | ⟨0, _⟩ => rfl
  | ⟨1, _⟩ => rfl

/-- Every column of the whole array is in some device's block. -/
theorem real_of_blocks (A : FVec Ideal ⟨2, ![1024, 4096]⟩ .f32)
    (h : ∀ (e : Fin 4) (i : (⟨2, ![1024, 1024]⟩ : Shape).Idx), IsReal ((Layout.block ⟨2, ![1024, 1024]⟩ ⟨2, ![1024, 4096]⟩ 1 4 e A) i)) (i) : IsReal (A i) := by
  obtain ⟨r, J, rfl⟩ : ∃ (r : Fin 1024) (J : Fin 4096), i = ix2 r J := ⟨i 0, i 1, eq_ix2 i⟩
  have hJ := J.isLt
  have := h ⟨J.val / 1024, by omega⟩ (ix2 r ⟨J.val % 1024, by omega⟩)
  rw [block_cols] at this
  have e : whole ⟨J.val / 1024, by omega⟩ ⟨J.val % 1024, by omega⟩ = J := Fin.ext (by show J.val / 1024 * 1024 + J.val % 1024 = J.val; omega)
  rwa [e] at this

theorem sum_whole (f : Fin 4096 → EReal) : (∑ J : Fin 4096, f J) = ∑ e : Fin 4, ∑ j : Fin 1024, f (whole e j) := by
  rw [← Equiv.sum_comp (finProdFinEquiv (m := 4) (n := 1024)), Fintype.sum_prod_type]
  refine Finset.sum_congr rfl fun e _ => Finset.sum_congr rfl fun j _ => congrArg f (Fin.ext ?_)
  show j.val + 1024 * e.val = e.val * 1024 + j.val
  omega

theorem hd_whole (e : Fin 4) (j : Fin 1024) : hd (n := 32) (whole e j) = Cert.KernelIdeal.Ring.headOf e (hd (n := 8) j) := by
  apply Fin.ext; show (e.val * 1024 + j.val) / 128 = 8 * e.val + j.val / 128; omega
theorem lane_whole (e : Fin 4) (j : Fin 1024) : lane (n := 32) (whole e j) = lane (n := 8) j := by
  apply Fin.ext; show (e.val * 1024 + j.val) % 128 = j.val % 128; omega
theorem col_whole (e : Fin 4) (h : Fin 8) (d : Fin 128) (hlt : 128 * h.val + d.val < 1024) :
    whole e ⟨128 * h.val + d.val, hlt⟩ = Cert.ReferenceIdeal.Parts.col (Cert.KernelIdeal.Ring.headOf e h) d := by
  apply Fin.ext; show e.val * 1024 + (128 * h.val + d.val) = 128 * (8 * e.val + h.val) + d.val; omega

/-! ## The two results -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments. -/
abbrev argX : FVec Ideal ⟨3, ![1, 2048, 1024]⟩ .f32 := m' (((0 : Dev Cert.ReferenceIdeal.nD).tc : Thread Cert.ReferenceIdeal.nD Cert.ReferenceIdeal.τ).loc Cert.ReferenceIdeal.main_arg0)
abbrev argW : FVec Ideal ⟨2, ![1024, 4096]⟩ .f32 := m' (((0 : Dev Cert.ReferenceIdeal.nD).tc : Thread Cert.ReferenceIdeal.nD Cert.ReferenceIdeal.τ).loc Cert.ReferenceIdeal.main_arg1)
abbrev argK : FVec Ideal ⟨4, ![1, 2048, 32, 128]⟩ .f32 := m' (((0 : Dev Cert.ReferenceIdeal.nD).tc : Thread Cert.ReferenceIdeal.nD Cert.ReferenceIdeal.τ).loc Cert.ReferenceIdeal.main_arg2)
abbrev argV : FVec Ideal ⟨4, ![1, 2048, 32, 128]⟩ .f32 := m' (((0 : Dev Cert.ReferenceIdeal.nD).tc : Thread Cert.ReferenceIdeal.nD Cert.ReferenceIdeal.τ).loc Cert.ReferenceIdeal.main_arg3)
abbrev argO : FVec Ideal ⟨2, ![4096, 1024]⟩ .f32 := m' (((0 : Dev Cert.ReferenceIdeal.nD).tc : Thread Cert.ReferenceIdeal.nD Cert.ReferenceIdeal.τ).loc Cert.ReferenceIdeal.main_arg4)

open Cert.KernelIdeal Cert.KernelIdeal.Gen Cert.KernelIdeal.Ring

theorem agree
    (h0 : ∀ c : Dev nD, m ((c.tc : Thread nD τ).loc main_arg0) = argX m')
    (h1 : ∀ c : Dev nD, m ((c.tc : Thread nD τ).loc main_arg1) = Layout.block ⟨2, ![1024, 1024]⟩ ⟨2, ![1024, 4096]⟩ 1 4 c (argW m'))
    (h2 : ∀ c : Dev nD, m ((c.tc : Thread nD τ).loc main_arg2) = argK m')
    (h3 : ∀ c : Dev nD, m ((c.tc : Thread nD τ).loc main_arg3) = argV m')
    (h4 : ∀ c : Dev nD, m ((c.tc : Thread nD τ).loc main_arg4) = Layout.block ⟨2, ![1024, 1024]⟩ ⟨2, ![4096, 1024]⟩ 0 4 c (argO m'))
    (hx : ∀ i, IsReal (argX m' i)) (hw : ∀ i, IsReal (argW m' i)) (hk : ∀ i, IsReal (argK m' i)) :
    (shapeCast S1x2048x1024 (OUT (F := Ideal) (Mv (Vb (V1 m)))) shapeCasts_S2048x1024_S1x2048x1024 : FVec Ideal S1x2048x1024 .f32)
      = Cert.ReferenceIdeal.Value.res_main_v42 m' 0 := by
  funext i
  obtain ⟨z, q, n, rfl⟩ : ∃ (z : Fin 1) (q : Fin 2048) (n : Fin 1024), i = ix3 z q n := ⟨i 0, i 1, i 2, eq_ix3 i⟩
  obtain rfl : z = 0 := Subsingleton.elim _ _
  refine (result_at m q n).trans (Eq.trans ?_ (Cert.ReferenceIdeal.Parts.res_at m' 0 hx hw hk q n).symm)
  rw [sum_whole]
  refine Finset.sum_congr rfl fun e _ => Finset.sum_congr rfl fun j _ => ?_
  refine congrArg₂ (· * ·) ?_ ?_
  · refine (ctx_at m e q j).trans ?_
    rw [hd_whole, lane_whole]
    refine congrArg₂ (attend q.val) (congr (congr (congrArg score (funext fun i => ?_)) (funext fun i => funext fun d => ?_))
      (funext fun j => funext fun d => ?_)) (funext fun j => ?_)
    · exact congrFun (h0 e) _
    · refine (congrFun (h1 e) _).trans ((block_cols (argW m') e i _).trans ?_)
      exact congrArg (fun J => argW m' (ix2 i J)) (col_whole e _ d _)
    · exact congrFun (h2 e) _
    · exact congrFun (h3 e) _
  · exact (congrFun (h4 e) _).trans (block_rows (argO m') e j n)

end Cert.Match

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Match
public import proofs.«01_k».proof.Proof.Kept
public import proofs.«01_k».proof.Proof.KKept
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

theorem kernel_frame : Cert.quiescent_Kernel (hKernel := Cert.Kernel.Gen.facts) := by
  intro m g _
  exact (θ_run _ _ _).mono (fun r h => ⟨fun c => (h.1 c).2, h.2⟩) (Cert.Kernel.Ring.run_final (F := Bits) m g)

theorem ideal_frame : Cert.quiescent_KernelIdeal (hKernelIdeal := Cert.KernelIdeal.Gen.facts) := by
  intro m g _
  exact (θ_run _ _ _).mono (fun r h => ⟨fun c => (h.1 c).2, h.2⟩) (Cert.KernelIdeal.Ring.run_final (F := Ideal) m g)

theorem ideal_frame_finite : Cert.quiescent_KernelIdeal_pre_finite_KernelIdeal (hKernelIdeal := Cert.KernelIdeal.Gen.facts)
    (hPre_finite_KernelIdeal := Cert.Pre_finite_KernelIdeal.Gen.facts) := by
  intro m g _
  exact ideal_frame m g trivial

theorem reference_frame : Cert.quiescent_ReferenceIdeal (hReferenceIdeal := Cert.ReferenceIdeal.Gen.facts) := by
  intro m g _
  exact (θ_run _ _ _).mono (fun r h => ⟨fun c => (h c).2, sem_eq_zero_of_no_sems rfl r.2⟩) (Cert.ReferenceIdeal.Value.run (F := Ideal) m g)

theorem reference_frame_finite : Cert.quiescent_ReferenceIdeal_pre_finite_ReferenceIdeal (hReferenceIdeal := Cert.ReferenceIdeal.Gen.facts)
    (hPre_finite_ReferenceIdeal := Cert.Pre_finite_ReferenceIdeal.Gen.facts) := by
  intro m g _
  exact reference_frame m g trivial

theorem preserves : Cert.preserves_Kernel_KernelIdeal :=
  IdealRules.named_const.statement Cert.KernelIdeal.κ "mask" .f32 0xCE6E6B28#32 ⊥ rfl

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hp hm
  have hfin := fun c : Dev Cert.KernelIdeal.nD => Cert.Match.finite_all _ _ _ _ _ (hp c)
  have hx : ∀ i, Cert.Soft.IsReal (Cert.Match.argX m' i) := fun i => by
    have := (hfin 0).1 i
    rwa [(hm 0).1] at this
  have hw : ∀ i, Cert.Soft.IsReal (Cert.Match.argW m' i) := Cert.Match.real_of_blocks _ fun e i => by
    have := (hfin e).2.1 i
    rwa [(hm e).2.1] at this
  have hk : ∀ i, Cert.Soft.IsReal (Cert.Match.argK m' i) := fun i => by
    have := (hfin 0).2.2 i
    rwa [(hm 0).2.2.1] at this
  refine ⟨_, (θ_run _ _ _).mono (fun r h c => ?_) (Cert.KernelIdeal.Ring.run_final (F := Ideal) m g),
    (θ_run _ _ _).mono (fun r h => h 0) (Cert.ReferenceIdeal.Value.run (F := Ideal) m' g')⟩
  refine ⟨(h.1 c).1.trans ?_, (h.1 c).2⟩
  exact Cert.Match.agree m m' (fun e => (hm e).1) (fun e => (hm e).2.1) (fun e => (hm e).2.2.1) (fun e => (hm e).2.2.2.1)
    (fun e => (hm e).2.2.2.2) hx hw hk

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  kernel_frame, ideal_frame, ideal_frame_finite, reference_frame, reference_frame_finite, preserves, algebraic⟩

end Cert.Proof

end
